-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![32, 128, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![32, 128, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S32x128x64x64 : Shape := ⟨4, ![32, 128, 64, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S32x128x64x64 : S_.BroadcastsInDim S32x128x64x64 (![] : Fin 0 → Fin S32x128x64x64.rank)

variable [Facts]

def fn {F : FTy → Type} [FloatOps F] (main_arg0 : FVec F S2x128x512 .f32) (main_arg1 : FVec F S512x256 .f32) (main_arg2 : FVec F S32x128x64x64 .f32) (main_arg3 : FVec F S32x128x64x64 .f32) (main_arg4 : FVec F S256x512 .f32) : IVec S2x128x512 1 × IVec S512x256 1 × IVec S32x128x64x64 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S32x128x64x64 .f32 := Host.absf main_arg2
  let main_cst_1 : FVec F S_ .f32 := constant S_ .f32 0x7F800000#32
  let main_v7 : FVec F S32x128x64x64 .f32 := broadcastInDim S32x128x64x64 ![] bcast_S_S32x128x64x64 main_cst_1
  let main_v8 : IVec S32x128x64x64 1 := cmpf .olt main_v6 main_v7
  (main_v2, main_v5, main_v8)
-- ==== Pre_finite_ReferenceIdeal.lean ====
abbrev S32x128x512 : Shape := ⟨3, ![32, 128, 512]⟩
abbrev S512x4096 : Shape := ⟨2, ![512, 4096]⟩
abbrev S32x128x64x64 : Shape := ⟨4, ![32, 128, 64, 64]⟩
abbrev S4096x512 : Shape := ⟨2, ![4096, 512]⟩
abbrev S_ : Shape := ⟨0, ![]⟩

class Facts : Prop where
  bcast_S_S32x128x512 : S_.BroadcastsInDim S32x128x512 (![] : Fin 0 → Fin S32x128x512.rank)
  bcast_S_S512x4096 : S_.BroadcastsInDim S512x4096 (![] : Fin 0 → Fin S512x4096.rank)
  bcast_S_S32x128x64x64 : S_.BroadcastsInDim S32x128x64x64 (![] : Fin 0 → Fin S32x128x64x64.rank)

variable [Facts]

def fn {F : FTy → Type} [FloatOps F] (main_arg0 : FVec F S32x128x512 .f32) (main_arg1 : FVec F S512x4096 .f32) (main_arg2 : FVec F S32x128x64x64 .f32) (main_arg3 : FVec F S32x128x64x64 .f32) (main_arg4 : FVec F S4096x512 .f32) : IVec S32x128x512 1 × IVec S512x4096 1 × IVec S32x128x64x64 1 :=
  let main_v0 : FVec F S32x128x512 .f32 := Host.absf main_arg0
  let main_cst : FVec F S_ .f32 := constant S_ .f32 0x7F800000#32
  let main_v1 : FVec F S32x128x512 .f32 := broadcastInDim S32x128x512 ![] bcast_S_S32x128x512 main_cst
  let main_v2 : IVec S32x128x512 1 := cmpf .olt main_v0 main_v1
  let main_v3 : FVec F S512x4096 .f32 := Host.absf main_arg1
  let main_cst_0 : FVec F S_ .f32 := constant S_ .f32 0x7F800000#32
  let main_v4 : FVec F S512x4096 .f32 := broadcastInDim S512x4096 ![] bcast_S_S512x4096 main_cst_0
  let main_v5 : IVec S512x4096 1 := cmpf .olt main_v3 main_v4
  let main_v6 : FVec F S32x128x64x64 .f32 := Host.absf main_arg2
  let main_cst_1 : FVec F S_ .f32 := constant S_ .f32 0x7F800000#32
  let main_v7 : FVec F S32x128x64x64 .f32 := broadcastInDim S32x128x64x64 ![] bcast_S_S32x128x64x64 main_cst_1
  let main_v8 : IVec S32x128x64x64 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S32x128x64x64 : Shape := ⟨4, ![32, 128, 64, 64]⟩
abbrev S256x512 : Shape := ⟨2, ![256, 512]⟩
abbrev S16x512x256 : Shape := ⟨3, ![16, 512, 256]⟩
abbrev S16x256x512 : Shape := ⟨3, ![16, 256, 512]⟩
abbrev S64x2x128x64 : Shape := ⟨4, ![64, 2, 128, 64]⟩
abbrev S8 : Shape := ⟨1, ![8]⟩
abbrev S7 : Shape := ⟨1, ![7]⟩
abbrev S2 : Shape := ⟨1, ![2]⟩
abbrev S_ : Shape := ⟨0, ![]⟩
abbrev S1 : Shape := ⟨1, ![1]⟩
abbrev S1x2x128x64 : Shape := ⟨4, ![1, 2, 128, 64]⟩
abbrev S2x128x64 : Shape := ⟨3, ![2, 128, 64]⟩
abbrev S2x128x1x64 : Shape := ⟨4, ![2, 128, 1, 64]⟩
abbrev S1x512x256 : Shape := ⟨3, ![1, 512, 256]⟩
abbrev S1x256x512 : Shape := ⟨3, ![1, 256, 512]⟩
abbrev S256x256 : Shape := ⟨2, ![256, 256]⟩
abbrev S256x64 : Shape := ⟨2, ![256, 64]⟩
abbrev S256 : Shape := ⟨1, ![256]⟩
abbrev S256x1 : Shape := ⟨2, ![256, 1]⟩
abbrev S1x64x512 : Shape := ⟨3, ![1, 64, 512]⟩
abbrev S64x512 : Shape := ⟨2, ![64, 512]⟩

abbrev nBuf : Space → Nat
  | .hbm => 6
  | .vmem => 9
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S32x128x64x64, .f32⟩
  | .hbm, ⟨3, _⟩ => ⟨S32x128x64x64, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S256x512, .f32⟩
  | .local _ .vmem, ⟨3, _⟩ => ⟨S2x128x512, .f32⟩
  | .local _ .vmem, ⟨4, _⟩ => ⟨S16x512x256, .f32⟩
  | .local _ .vmem, ⟨5, _⟩ => ⟨S16x256x512, .f32⟩
  | .local _ .vmem, ⟨6, _⟩ => ⟨S64x2x128x64, .f32⟩
  | .local _ .vmem, ⟨7, _⟩ => ⟨S64x2x128x64, .f32⟩
  | .local _ .vmem, ⟨8, _⟩ => ⟨S256x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_17 : BitVec 32 := 0#32
  let c0_i32_11 : BitVec 32 := 0#32
  let c0_i32_18 : BitVec 32 := 0#32
  ![v13.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_33 : BitVec 32 := 0#32
  let c1_i32_27 : BitVec 32 := 1#32
  let c0_i32_34 : BitVec 32 := 0#32
  ![v13.toNat, 0, 1, 0]
def k0_off3 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_49 : BitVec 32 := 0#32
  let c2_i32_43 : BitVec 32 := 2#32
  let c0_i32_50 : BitVec 32 := 0#32
  ![v13.toNat, 0, 2, 0]
def k0_off4 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_64 : BitVec 32 := 0#32
  let c3_i32 : BitVec 32 := 3#32
  let c0_i32_65 : BitVec 32 := 0#32
  ![v13.toNat, 0, 3, 0]
def k0_off5 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_79 : BitVec 32 := 0#32
  let c4_i32 : BitVec 32 := 4#32
  let c0_i32_80 : BitVec 32 := 0#32
  ![v13.toNat, 0, 4, 0]
def k0_off6 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_94 : BitVec 32 := 0#32
  let c5_i32 : BitVec 32 := 5#32
  let c0_i32_95 : BitVec 32 := 0#32
  ![v13.toNat, 0, 5, 0]
def k0_off7 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_109 : BitVec 32 := 0#32
  let c6_i32 : BitVec 32 := 6#32
  let c0_i32_110 : BitVec 32 := 0#32
  ![v13.toNat, 0, 6, 0]
def k0_off8 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_124 : BitVec 32 := 0#32
  let c7_i32 : BitVec 32 := 7#32
  let c0_i32_125 : BitVec 32 := 0#32
  ![v13.toNat, 0, 7, 0]
def k0_off9 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_139 : BitVec 32 := 0#32
  let c8_i32 : BitVec 32 := 8#32
  let c0_i32_140 : BitVec 32 := 0#32
  ![v13.toNat, 0, 8, 0]
def k0_off10 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_154 : BitVec 32 := 0#32
  let c9_i32 : BitVec 32 := 9#32
  let c0_i32_155 : BitVec 32 := 0#32
  ![v13.toNat, 0, 9, 0]
def k0_off11 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_169 : BitVec 32 := 0#32
  let c10_i32 : BitVec 32 := 10#32
  let c0_i32_170 : BitVec 32 := 0#32
  ![v13.toNat, 0, 10, 0]
def k0_off12 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_184 : BitVec 32 := 0#32
  let c11_i32 : BitVec 32 := 11#32
  let c0_i32_185 : BitVec 32 := 0#32
  ![v13.toNat, 0, 11, 0]
def k0_off13 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_199 : BitVec 32 := 0#32
  let c12_i32 : BitVec 32 := 12#32
  let c0_i32_200 : BitVec 32 := 0#32
  ![v13.toNat, 0, 12, 0]
def k0_off14 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_214 : BitVec 32 := 0#32
  let c13_i32 : BitVec 32 := 13#32
  let c0_i32_215 : BitVec 32 := 0#32
  ![v13.toNat, 0, 13, 0]
def k0_off15 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_229 : BitVec 32 := 0#32
  let c14_i32 : BitVec 32 := 14#32
  let c0_i32_230 : BitVec 32 := 0#32
  ![v13.toNat, 0, 14, 0]
def k0_off16 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_244 : BitVec 32 := 0#32
  let c15_i32 : BitVec 32 := 15#32
  let c0_i32_245 : BitVec 32 := 0#32
  ![v13.toNat, 0, 15, 0]
def k0_off17 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_260 : BitVec 32 := 0#32
  let c16_i32_254 : BitVec 32 := 16#32
  let c0_i32_261 : BitVec 32 := 0#32
  ![v13.toNat, 0, 16, 0]
def k0_off18 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_275 : BitVec 32 := 0#32
  let c17_i32 : BitVec 32 := 17#32
  let c0_i32_276 : BitVec 32 := 0#32
  ![v13.toNat, 0, 17, 0]
def k0_off19 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_290 : BitVec 32 := 0#32
  let c18_i32 : BitVec 32 := 18#32
  let c0_i32_291 : BitVec 32 := 0#32
  ![v13.toNat, 0, 18, 0]
def k0_off20 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_305 : BitVec 32 := 0#32
  let c19_i32 : BitVec 32 := 19#32
  let c0_i32_306 : BitVec 32 := 0#32
  ![v13.toNat, 0, 19, 0]
def k0_off21 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_320 : BitVec 32 := 0#32
  let c20_i32 : BitVec 32 := 20#32
  let c0_i32_321 : BitVec 32 := 0#32
  ![v13.toNat, 0, 20, 0]
def k0_off22 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_335 : BitVec 32 := 0#32
  let c21_i32 : BitVec 32 := 21#32
  let c0_i32_336 : BitVec 32 := 0#32
  ![v13.toNat, 0, 21, 0]
def k0_off23 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_350 : BitVec 32 := 0#32
  let c22_i32 : BitVec 32 := 22#32
  let c0_i32_351 : BitVec 32 := 0#32
  ![v13.toNat, 0, 22, 0]
def k0_off24 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_365 : BitVec 32 := 0#32
  let c23_i32 : BitVec 32 := 23#32
  let c0_i32_366 : BitVec 32 := 0#32
  ![v13.toNat, 0, 23, 0]
def k0_off25 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_380 : BitVec 32 := 0#32
  let c24_i32 : BitVec 32 := 24#32
  let c0_i32_381 : BitVec 32 := 0#32
  ![v13.toNat, 0, 24, 0]
def k0_off26 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_395 : BitVec 32 := 0#32
  let c25_i32 : BitVec 32 := 25#32
  let c0_i32_396 : BitVec 32 := 0#32
  ![v13.toNat, 0, 25, 0]
def k0_off27 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_410 : BitVec 32 := 0#32
  let c26_i32 : BitVec 32 := 26#32
  let c0_i32_411 : BitVec 32 := 0#32
  ![v13.toNat, 0, 26, 0]
def k0_off28 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_425 : BitVec 32 := 0#32
  let c27_i32 : BitVec 32 := 27#32
  let c0_i32_426 : BitVec 32 := 0#32
  ![v13.toNat, 0, 27, 0]
def k0_off29 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_440 : BitVec 32 := 0#32
  let c28_i32 : BitVec 32 := 28#32
  let c0_i32_441 : BitVec 32 := 0#32
  ![v13.toNat, 0, 28, 0]
def k0_off30 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_455 : BitVec 32 := 0#32
  let c29_i32 : BitVec 32 := 29#32
  let c0_i32_456 : BitVec 32 := 0#32
  ![v13.toNat, 0, 29, 0]
def k0_off31 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_470 : BitVec 32 := 0#32
  let c30_i32 : BitVec 32 := 30#32
  let c0_i32_471 : BitVec 32 := 0#32
  ![v13.toNat, 0, 30, 0]
def k0_off32 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_485 : BitVec 32 := 0#32
  let c31_i32 : BitVec 32 := 31#32
  let c0_i32_486 : BitVec 32 := 0#32
  ![v13.toNat, 0, 31, 0]
def k0_off33 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_500 : BitVec 32 := 0#32
  let c32_i32 : BitVec 32 := 32#32
  let c0_i32_501 : BitVec 32 := 0#32
  ![v13.toNat, 0, 32, 0]
def k0_off34 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_515 : BitVec 32 := 0#32
  let c33_i32 : BitVec 32 := 33#32
  let c0_i32_516 : BitVec 32 := 0#32
  ![v13.toNat, 0, 33, 0]
def k0_off35 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_530 : BitVec 32 := 0#32
  let c34_i32 : BitVec 32 := 34#32
  let c0_i32_531 : BitVec 32 := 0#32
  ![v13.toNat, 0, 34, 0]
def k0_off36 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_545 : BitVec 32 := 0#32
  let c35_i32 : BitVec 32 := 35#32
  let c0_i32_546 : BitVec 32 := 0#32
  ![v13.toNat, 0, 35, 0]
def k0_off37 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_560 : BitVec 32 := 0#32
  let c36_i32 : BitVec 32 := 36#32
  let c0_i32_561 : BitVec 32 := 0#32
  ![v13.toNat, 0, 36, 0]
def k0_off38 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_575 : BitVec 32 := 0#32
  let c37_i32 : BitVec 32 := 37#32
  let c0_i32_576 : BitVec 32 := 0#32
  ![v13.toNat, 0, 37, 0]
def k0_off39 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_590 : BitVec 32 := 0#32
  let c38_i32 : BitVec 32 := 38#32
  let c0_i32_591 : BitVec 32 := 0#32
  ![v13.toNat, 0, 38, 0]
def k0_off40 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_605 : BitVec 32 := 0#32
  let c39_i32 : BitVec 32 := 39#32
  let c0_i32_606 : BitVec 32 := 0#32
  ![v13.toNat, 0, 39, 0]
def k0_off41 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_620 : BitVec 32 := 0#32
  let c40_i32 : BitVec 32 := 40#32
  let c0_i32_621 : BitVec 32 := 0#32
  ![v13.toNat, 0, 40, 0]
def k0_off42 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_635 : BitVec 32 := 0#32
  let c41_i32 : BitVec 32 := 41#32
  let c0_i32_636 : BitVec 32 := 0#32
  ![v13.toNat, 0, 41, 0]
def k0_off43 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_650 : BitVec 32 := 0#32
  let c42_i32 : BitVec 32 := 42#32
  let c0_i32_651 : BitVec 32 := 0#32
  ![v13.toNat, 0, 42, 0]
def k0_off44 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_665 : BitVec 32 := 0#32
  let c43_i32 : BitVec 32 := 43#32
  let c0_i32_666 : BitVec 32 := 0#32
  ![v13.toNat, 0, 43, 0]
def k0_off45 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_680 : BitVec 32 := 0#32
  let c44_i32 : BitVec 32 := 44#32
  let c0_i32_681 : BitVec 32 := 0#32
  ![v13.toNat, 0, 44, 0]
def k0_off46 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_695 : BitVec 32 := 0#32
  let c45_i32 : BitVec 32 := 45#32
  let c0_i32_696 : BitVec 32 := 0#32
  ![v13.toNat, 0, 45, 0]
def k0_off47 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_710 : BitVec 32 := 0#32
  let c46_i32 : BitVec 32 := 46#32
  let c0_i32_711 : BitVec 32 := 0#32
  ![v13.toNat, 0, 46, 0]
def k0_off48 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_725 : BitVec 32 := 0#32
  let c47_i32 : BitVec 32 := 47#32
  let c0_i32_726 : BitVec 32 := 0#32
  ![v13.toNat, 0, 47, 0]
def k0_off49 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_740 : BitVec 32 := 0#32
  let c48_i32 : BitVec 32 := 48#32
  let c0_i32_741 : BitVec 32 := 0#32
  ![v13.toNat, 0, 48, 0]
def k0_off50 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_755 : BitVec 32 := 0#32
  let c49_i32 : BitVec 32 := 49#32
  let c0_i32_756 : BitVec 32 := 0#32
  ![v13.toNat, 0, 49, 0]
def k0_off51 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_770 : BitVec 32 := 0#32
  let c50_i32 : BitVec 32 := 50#32
  let c0_i32_771 : BitVec 32 := 0#32
  ![v13.toNat, 0, 50, 0]
def k0_off52 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_785 : BitVec 32 := 0#32
  let c51_i32 : BitVec 32 := 51#32
  let c0_i32_786 : BitVec 32 := 0#32
  ![v13.toNat, 0, 51, 0]
def k0_off53 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_800 : BitVec 32 := 0#32
  let c52_i32 : BitVec 32 := 52#32
  let c0_i32_801 : BitVec 32 := 0#32
  ![v13.toNat, 0, 52, 0]
def k0_off54 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_815 : BitVec 32 := 0#32
  let c53_i32 : BitVec 32 := 53#32
  let c0_i32_816 : BitVec 32 := 0#32
  ![v13.toNat, 0, 53, 0]
def k0_off55 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_830 : BitVec 32 := 0#32
  let c54_i32 : BitVec 32 := 54#32
  let c0_i32_831 : BitVec 32 := 0#32
  ![v13.toNat, 0, 54, 0]
def k0_off56 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_845 : BitVec 32 := 0#32
  let c55_i32 : BitVec 32 := 55#32
  let c0_i32_846 : BitVec 32 := 0#32
  ![v13.toNat, 0, 55, 0]
def k0_off57 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_860 : BitVec 32 := 0#32
  let c56_i32 : BitVec 32 := 56#32
  let c0_i32_861 : BitVec 32 := 0#32
  ![v13.toNat, 0, 56, 0]
def k0_off58 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_875 : BitVec 32 := 0#32
  let c57_i32 : BitVec 32 := 57#32
  let c0_i32_876 : BitVec 32 := 0#32
  ![v13.toNat, 0, 57, 0]
def k0_off59 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_890 : BitVec 32 := 0#32
  let c58_i32 : BitVec 32 := 58#32
  let c0_i32_891 : BitVec 32 := 0#32
  ![v13.toNat, 0, 58, 0]
def k0_off60 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_905 : BitVec 32 := 0#32
  let c59_i32 : BitVec 32 := 59#32
  let c0_i32_906 : BitVec 32 := 0#32
  ![v13.toNat, 0, 59, 0]
def k0_off61 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_920 : BitVec 32 := 0#32
  let c60_i32 : BitVec 32 := 60#32
  let c0_i32_921 : BitVec 32 := 0#32
  ![v13.toNat, 0, 60, 0]
def k0_off62 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_935 : BitVec 32 := 0#32
  let c61_i32 : BitVec 32 := 61#32
  let c0_i32_936 : BitVec 32 := 0#32
  ![v13.toNat, 0, 61, 0]
def k0_off63 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_950 : BitVec 32 := 0#32
  let c62_i32 : BitVec 32 := 62#32
  let c0_i32_951 : BitVec 32 := 0#32
  ![v13.toNat, 0, 62, 0]
def k0_off64 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_10 : BitVec 32 := 2#32
  let v13 : BitVec 32 := Scalar.muli v2 c2_i32_10
  let c0_i32_965 : BitVec 32 := 0#32
  let c63_i32 : BitVec 32 := 63#32
  let c0_i32_966 : BitVec 32 := 0#32
  ![v13.toNat, 0, 63, 0]
def k0_dev3 (d0 : Dev nD) : Nat :=
  let c0_i32_2062 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2061 : BitVec 32 := 1#32
  let v1723 : BitVec 32 := Scalar.muli v7 c1_i32_2061
  let v1724 : BitVec 32 := Scalar.addi c0_i32_2062 v1723
  v1724.toNat
def k0_dev4 (d0 : Dev nD) : Nat :=
  let c0_i32_2072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2071 : BitVec 32 := 1#32
  let v1733 : BitVec 32 := Scalar.muli v7 c1_i32_2071
  let v1734 : BitVec 32 := Scalar.addi c0_i32_2072 v1733
  v1734.toNat
def k0_dev5 (d0 : Dev nD) : Nat :=
  let c0_i32_2082 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2081 : BitVec 32 := 1#32
  let v1743 : BitVec 32 := Scalar.muli v5 c1_i32_2081
  let v1744 : BitVec 32 := Scalar.addi c0_i32_2082 v1743
  v1744.toNat
def k0_dev6 (d0 : Dev nD) : Nat :=
  let c0_i32_2092 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2091 : BitVec 32 := 1#32
  let v1753 : BitVec 32 := Scalar.muli v5 c1_i32_2091
  let v1754 : BitVec 32 := Scalar.addi c0_i32_2092 v1753
  v1754.toNat
def k0_off65 (d0 : Dev nD) (c0_i32_2097 : BitVec 32) (c0_i32_2105 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1763 : BitVec 32 := Scalar.subi v2 c0_i32_2097
  let c16_i32_2098 : BitVec 32 := 16#32
  let v1764 : BitVec 32 := Scalar.addi v1763 c16_i32_2098
  let c16_i32_2099 : BitVec 32 := 16#32
  let v1765 : BitVec 32 := Scalar.remsi v1764 c16_i32_2099
  let c4_i32_2104 : BitVec 32 := 4#32
  let v1770 : BitVec 32 := Scalar.muli v1765 c4_i32_2104
  let v1771 : BitVec 32 := Scalar.addi v1770 c0_i32_2105
  let v1772 : Index := Scalar.indexCast v1771
  let c0_2106 : Index := 0#32
  let c0_2107 : Index := 0#32
  let c0_2108 : Index := 0#32
  ![v1772.toNat, 0, 0, 0]
def k0_dev7 (d0 : Dev nD) : Nat :=
  let c0_i32_2256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2255 : BitVec 32 := 1#32
  let v1935 : BitVec 32 := Scalar.muli v7 c1_i32_2255
  let v1936 : BitVec 32 := Scalar.addi c0_i32_2256 v1935
  v1936.toNat
def k0_dev8 (d0 : Dev nD) : Nat :=
  let c0_i32_2266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2265 : BitVec 32 := 1#32
  let v1945 : BitVec 32 := Scalar.muli v7 c1_i32_2265
  let v1946 : BitVec 32 := Scalar.addi c0_i32_2266 v1945
  v1946.toNat
def k0_dev9 (d0 : Dev nD) : Nat :=
  let c0_i32_2276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2275 : BitVec 32 := 1#32
  let v1955 : BitVec 32 := Scalar.muli v5 c1_i32_2275
  let v1956 : BitVec 32 := Scalar.addi c0_i32_2276 v1955
  v1956.toNat
def k0_dev10 (d0 : Dev nD) : Nat :=
  let c0_i32_2286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2285 : BitVec 32 := 1#32
  let v1965 : BitVec 32 := Scalar.muli v5 c1_i32_2285
  let v1966 : BitVec 32 := Scalar.addi c0_i32_2286 v1965
  v1966.toNat
def k0_dev11 (d0 : Dev nD) : Nat :=
  let c0_i32_2536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2535 : BitVec 32 := 1#32
  let v2267 : BitVec 32 := Scalar.muli v7 c1_i32_2535
  let v2268 : BitVec 32 := Scalar.addi c0_i32_2536 v2267
  v2268.toNat
def k0_dev12 (d0 : Dev nD) : Nat :=
  let c0_i32_2546 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2545 : BitVec 32 := 1#32
  let v2277 : BitVec 32 := Scalar.muli v7 c1_i32_2545
  let v2278 : BitVec 32 := Scalar.addi c0_i32_2546 v2277
  v2278.toNat
def k0_dev13 (d0 : Dev nD) : Nat :=
  let c0_i32_2556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2555 : BitVec 32 := 1#32
  let v2287 : BitVec 32 := Scalar.muli v5 c1_i32_2555
  let v2288 : BitVec 32 := Scalar.addi c0_i32_2556 v2287
  v2288.toNat
def k0_dev14 (d0 : Dev nD) : Nat :=
  let c0_i32_2566 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2565 : BitVec 32 := 1#32
  let v2297 : BitVec 32 := Scalar.muli v5 c1_i32_2565
  let v2298 : BitVec 32 := Scalar.addi c0_i32_2566 v2297
  v2298.toNat
def k0_dev15 (d0 : Dev nD) : Nat :=
  let c0_i32_2816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2815 : BitVec 32 := 1#32
  let v2599 : BitVec 32 := Scalar.muli v7 c1_i32_2815
  let v2600 : BitVec 32 := Scalar.addi c0_i32_2816 v2599
  v2600.toNat
def k0_dev16 (d0 : Dev nD) : Nat :=
  let c0_i32_2826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2825 : BitVec 32 := 1#32
  let v2609 : BitVec 32 := Scalar.muli v7 c1_i32_2825
  let v2610 : BitVec 32 := Scalar.addi c0_i32_2826 v2609
  v2610.toNat
def k0_dev17 (d0 : Dev nD) : Nat :=
  let c0_i32_2836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2835 : BitVec 32 := 1#32
  let v2619 : BitVec 32 := Scalar.muli v5 c1_i32_2835
  let v2620 : BitVec 32 := Scalar.addi c0_i32_2836 v2619
  v2620.toNat
def k0_dev18 (d0 : Dev nD) : Nat :=
  let c0_i32_2846 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2845 : BitVec 32 := 1#32
  let v2629 : BitVec 32 := Scalar.muli v5 c1_i32_2845
  let v2630 : BitVec 32 := Scalar.addi c0_i32_2846 v2629
  v2630.toNat
def k0_dev19 (d0 : Dev nD) : Nat :=
  let c0_i32_3096 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3095 : BitVec 32 := 1#32
  let v2931 : BitVec 32 := Scalar.muli v7 c1_i32_3095
  let v2932 : BitVec 32 := Scalar.addi c0_i32_3096 v2931
  v2932.toNat
def k0_dev20 (d0 : Dev nD) : Nat :=
  let c0_i32_3106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3105 : BitVec 32 := 1#32
  let v2941 : BitVec 32 := Scalar.muli v7 c1_i32_3105
  let v2942 : BitVec 32 := Scalar.addi c0_i32_3106 v2941
  v2942.toNat
def k0_dev21 (d0 : Dev nD) : Nat :=
  let c0_i32_3116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3115 : BitVec 32 := 1#32
  let v2951 : BitVec 32 := Scalar.muli v5 c1_i32_3115
  let v2952 : BitVec 32 := Scalar.addi c0_i32_3116 v2951
  v2952.toNat
def k0_dev22 (d0 : Dev nD) : Nat :=
  let c0_i32_3126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3125 : BitVec 32 := 1#32
  let v2961 : BitVec 32 := Scalar.muli v5 c1_i32_3125
  let v2962 : BitVec 32 := Scalar.addi c0_i32_3126 v2961
  v2962.toNat
def k0_dev23 (d0 : Dev nD) : Nat :=
  let c0_i32_3376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3375 : BitVec 32 := 1#32
  let v3263 : BitVec 32 := Scalar.muli v7 c1_i32_3375
  let v3264 : BitVec 32 := Scalar.addi c0_i32_3376 v3263
  v3264.toNat
def k0_dev24 (d0 : Dev nD) : Nat :=
  let c0_i32_3386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3385 : BitVec 32 := 1#32
  let v3273 : BitVec 32 := Scalar.muli v7 c1_i32_3385
  let v3274 : BitVec 32 := Scalar.addi c0_i32_3386 v3273
  v3274.toNat
def k0_dev25 (d0 : Dev nD) : Nat :=
  let c0_i32_3396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3395 : BitVec 32 := 1#32
  let v3283 : BitVec 32 := Scalar.muli v5 c1_i32_3395
  let v3284 : BitVec 32 := Scalar.addi c0_i32_3396 v3283
  v3284.toNat
def k0_dev26 (d0 : Dev nD) : Nat :=
  let c0_i32_3406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3405 : BitVec 32 := 1#32
  let v3293 : BitVec 32 := Scalar.muli v5 c1_i32_3405
  let v3294 : BitVec 32 := Scalar.addi c0_i32_3406 v3293
  v3294.toNat
def k0_dev27 (d0 : Dev nD) : Nat :=
  let c0_i32_3656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3655 : BitVec 32 := 1#32
  let v3595 : BitVec 32 := Scalar.muli v7 c1_i32_3655
  let v3596 : BitVec 32 := Scalar.addi c0_i32_3656 v3595
  v3596.toNat
def k0_dev28 (d0 : Dev nD) : Nat :=
  let c0_i32_3666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3665 : BitVec 32 := 1#32
  let v3605 : BitVec 32 := Scalar.muli v7 c1_i32_3665
  let v3606 : BitVec 32 := Scalar.addi c0_i32_3666 v3605
  v3606.toNat
def k0_dev29 (d0 : Dev nD) : Nat :=
  let c0_i32_3676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3675 : BitVec 32 := 1#32
  let v3615 : BitVec 32 := Scalar.muli v5 c1_i32_3675
  let v3616 : BitVec 32 := Scalar.addi c0_i32_3676 v3615
  v3616.toNat
def k0_dev30 (d0 : Dev nD) : Nat :=
  let c0_i32_3686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3685 : BitVec 32 := 1#32
  let v3625 : BitVec 32 := Scalar.muli v5 c1_i32_3685
  let v3626 : BitVec 32 := Scalar.addi c0_i32_3686 v3625
  v3626.toNat
def k0_dev31 (d0 : Dev nD) : Nat :=
  let c0_i32_3936 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3935 : BitVec 32 := 1#32
  let v3927 : BitVec 32 := Scalar.muli v7 c1_i32_3935
  let v3928 : BitVec 32 := Scalar.addi c0_i32_3936 v3927
  v3928.toNat
def k0_dev32 (d0 : Dev nD) : Nat :=
  let c0_i32_3946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3945 : BitVec 32 := 1#32
  let v3937 : BitVec 32 := Scalar.muli v7 c1_i32_3945
  let v3938 : BitVec 32 := Scalar.addi c0_i32_3946 v3937
  v3938.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S32x128x512 : Shape := ⟨3, ![32, 128, 512]⟩
abbrev S512x4096 : Shape := ⟨2, ![512, 4096]⟩
abbrev S32x128x64x64 : Shape := ⟨4, ![32, 128, 64, 64]⟩
abbrev S4096x512 : Shape := ⟨2, ![4096, 512]⟩
abbrev S32x128x4096 : Shape := ⟨3, ![32, 128, 4096]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S32x64x128x128 : Shape := ⟨4, ![32, 64, 128, 128]⟩
abbrev S1x1x128x128 : Shape := ⟨4, ![1, 1, 128, 128]⟩
abbrev S32x64x128 : Shape := ⟨3, ![32, 64, 128]⟩
abbrev S32x64x128x1 : Shape := ⟨4, ![32, 64, 128, 1]⟩
abbrev S1x1x128x1 : Shape := ⟨4, ![1, 1, 128, 1]⟩
abbrev S32x64x64x128 : Shape := ⟨4, ![32, 64, 64, 128]⟩

abbrev nBuf : Space → Nat
  | .hbm => 123
  | .vmem => 0
  | .smem => 0
  | _ => 0

abbrev bufTy : (tb : Table) → Fin (tcTables nBuf tb) → BufTy
  | .hbm, ⟨0, _⟩ => ⟨S32x128x512, .f32⟩
  | .hbm, ⟨1, _⟩ => ⟨S512x4096, .f32⟩
  | .hbm, ⟨2, _⟩ => ⟨S32x128x64x64, .f32⟩
  | .hbm, ⟨3, _⟩ => ⟨S32x128x64x64, .f32⟩
  | .hbm, ⟨4, _⟩ => ⟨S4096x512, .f32⟩
  | .hbm, ⟨5, _⟩ => ⟨S32x128x4096, .f32⟩
  | .hbm, ⟨6, _⟩ => ⟨S32x128x64x64, .f32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S128, .i32⟩
  | .hbm, ⟨28, _⟩ => ⟨S_, .i32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S1x128, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S_, .i32⟩
  | .hbm, ⟨51, _⟩ => ⟨S1x128, .i32⟩
  | .hbm, ⟨52, _⟩ => ⟨S1x128, .i1⟩
  | .hbm, ⟨53, _⟩ => ⟨S128x128, .i1⟩
  | .hbm, ⟨54, _⟩ => ⟨S128x128, .i1⟩
  | .hbm, ⟨55, _⟩ => ⟨S128x128, .i32⟩
  | .hbm, ⟨56, _⟩ => ⟨S128x128, .i32⟩
  | .hbm, ⟨57, _⟩ => ⟨S128x128, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S128x128, .i32⟩
  | .hbm, ⟨65, _⟩ => ⟨S128x128, .i32⟩
  | .hbm, ⟨66, _⟩ => ⟨S_, .i32⟩
  | .hbm, ⟨67, _⟩ => ⟨S128x128, .i32⟩
  | .hbm, ⟨68, _⟩ => ⟨S128x128, .i1⟩
  | .hbm, ⟨69, _⟩ => ⟨S_, .i32⟩
  | .hbm, ⟨70, _⟩ => ⟨S128x128, .i32⟩
  | .hbm, ⟨71, _⟩ => ⟨S128x128, .i1⟩
  | .hbm, ⟨72, _⟩ => ⟨S_, .i32⟩
  | .hbm, ⟨73, _⟩ => ⟨S_, .i1⟩
  | .hbm, ⟨74, _⟩ => ⟨S128x128, .i1⟩
  | .hbm, ⟨75, _⟩ => ⟨S128x128, .i1⟩
  | .hbm, ⟨76, _⟩ => ⟨S128x128, .i1⟩
  | .hbm, ⟨77, _⟩ => ⟨S128x128, .i32⟩
  | .hbm, ⟨78, _⟩ => ⟨S128x128, .i32⟩
  | .hbm, ⟨79, _⟩ => ⟨S128x128, .i32⟩
  | .hbm, ⟨80, _⟩ => ⟨S_, .i32⟩
  | .hbm, ⟨81, _⟩ => ⟨S128x128, .i32⟩
  | .hbm, ⟨82, _⟩ => ⟨S128x128, .i1⟩
  | .hbm, ⟨83, _⟩ => ⟨S128x128, .i1⟩
  | .hbm, ⟨84, _⟩ => ⟨S32x64x128x128, .f32⟩
  | .hbm, ⟨85, _⟩ => ⟨S_, .f32⟩
  | .hbm, ⟨86, _⟩ => ⟨S32x64x128x128, .f32⟩
  | .hbm, ⟨87, _⟩ => ⟨S32x64x128x128, .f32⟩
  | .hbm, ⟨88, _⟩ => ⟨S1x1x128x128, .i1⟩
  | .hbm, ⟨89, _⟩ => ⟨S_, .f32⟩
  | .hbm, ⟨90, _⟩ => ⟨S_, .f32⟩
  | .hbm, ⟨91, _⟩ => ⟨S32x64x128x128, .i1⟩
  | .hbm, ⟨92, _⟩ => ⟨S32x64x128x128, .f32⟩
  | .hbm, ⟨93, _⟩ => ⟨S32x64x128x128, .f32⟩
  | .hbm, ⟨94, _⟩ => ⟨S_, .f32⟩
  | .hbm, ⟨95, _⟩ => ⟨S32x64x128, .f32⟩
  | .hbm, ⟨96, _⟩ => ⟨S32x64x128x1, .f32⟩
  | .hbm, ⟨97, _⟩ => ⟨S32x64x128x128, .f32⟩
  | .hbm, ⟨98, _⟩ => ⟨S32x64x128x128, .f32⟩
  | .hbm, ⟨99, _⟩ => ⟨S32x64x128x128, .f32⟩
  | .hbm, ⟨100, _⟩ => ⟨S_, .i1⟩
  | .hbm, ⟨101, _⟩ => ⟨S128, .i1⟩
  | .hbm, ⟨102, _⟩ => ⟨S1x1x128x1, .i1⟩
  | .hbm, ⟨103, _⟩ => ⟨S_, .f32⟩
  | .hbm, ⟨104, _⟩ => ⟨S32x64x128, .f32⟩
  | .hbm, ⟨105, _⟩ => ⟨S32x64x128x1, .f32⟩
  | .hbm, ⟨106, _⟩ => ⟨S_, .f32⟩
  | .hbm, ⟨107, _⟩ => ⟨S_, .f32⟩
  | .hbm, ⟨108, _⟩ => ⟨S32x64x128x1, .i1⟩
  | .hbm, ⟨109, _⟩ => ⟨S32x64x128x1, .f32⟩
  | .hbm, ⟨110, _⟩ => ⟨S32x64x128x1, .f32⟩
  | .hbm, ⟨111, _⟩ => ⟨S32x64x128x128, .f32⟩
  | .hbm, ⟨112, _⟩ => ⟨S32x64x128x128, .f32⟩
  | .hbm, ⟨113, _⟩ => ⟨S1x1x128x1, .i1⟩
  | .hbm, ⟨114, _⟩ => ⟨S_, .f32⟩
  | .hbm, ⟨115, _⟩ => ⟨S_, .f32⟩
  | .hbm, ⟨116, _⟩ => ⟨S32x64x128x128, .i1⟩
  | .hbm, ⟨117, _⟩ => ⟨S32x64x128x128, .f32⟩
  | .hbm, ⟨118, _⟩ => ⟨S32x64x128x128, .f32⟩
  | .hbm, ⟨119, _⟩ => ⟨S32x64x64x128, .f32⟩
  | .hbm, ⟨120, _⟩ => ⟨S32x128x64x64, .f32⟩
  | .hbm, ⟨121, _⟩ => ⟨S32x128x4096, .f32⟩
  | .hbm, ⟨122, _⟩ => ⟨S32x128x512, .f32⟩
  | _, _ => ⟨S32x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.KernelIdeal.Shape.lean ====
/-
# The kernel body, written as loops

The printed body lists every memory operation one after another. Here it is written the way the kernel is:
a neighbour handshake, 64 pairs of local copies, eight ring hops and the contributions of the sixteen shards.
`body_eq` says the printed body is this program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Attn

open Cert.KernelIdeal Cert.KernelIdeal.Gen
open Idealize.ShloMosaic Idealize.ShloMosaic.TcCoe
open Idealize.SL Idealize.SL.Sem

variable {F : FTy → Type} [FloatOps F]

/-! ## Buffers, slots and semaphores -/

abbrev xM : Memref sig .tc .vmem S2x128x512 .f32 := Memref.whole cc0_stg0_0
abbrev wqM : Memref sig .tc .vmem S512x256 .f32 := Memref.whole cc0_stg1_0
abbrev woM : Memref sig .tc .vmem S256x512 .f32 := Memref.whole cc0_stg2_0
abbrev outM : Memref sig .tc .vmem S2x128x512 .f32 := Memref.whole cc0_stg3_0
abbrev kM : Memref sig .tc .hbm S32x128x64x64 .f32 := Memref.whole main_arg2
abbrev vM : Memref sig .tc .hbm S32x128x64x64 .f32 := Memref.whole main_arg3
abbrev wqB : Memref sig .tc .vmem S16x512x256 .f32 := Memref.whole cc0_scratch0
abbrev woB : Memref sig .tc .vmem S16x256x512 .f32 := Memref.whole cc0_scratch1
abbrev ktB : Memref sig .tc .vmem S64x2x128x64 .f32 := Memref.whole cc0_scratch2
abbrev vtB : Memref sig .tc .vmem S64x2x128x64 .f32 := Memref.whole cc0_scratch3
abbrev accB : Memref sig .tc .vmem S256x512 .f32 := Memref.whole cc0_scratch4

theorem inb_wq (s : Fin 16) : ∀ a, (![s.val, 0, 0] : Fin 3 → Nat) a + S1x512x256.size a ≤ S16x512x256.size a := by
  revert s; decide
theorem inb_wo (s : Fin 16) : ∀ a, (![s.val, 0, 0] : Fin 3 → Nat) a + S1x256x512.size a ≤ S16x256x512.size a := by
  revert s; decide
theorem inb_woh (s : Fin 16) (hh : Fin 4) :
    ∀ a, (![s.val, 64 * hh.val, 0] : Fin 3 → Nat) a + S1x64x512.size a ≤ S16x256x512.size a := by
  revert s hh; decide
theorem inb_kt (h : Fin 64) : ∀ a, (![h.val, 0, 0, 0] : Fin 4 → Nat) a + S1x2x128x64.size a ≤ S64x2x128x64.size a := by
  revert h; decide
theorem slices_q (hh : Fin 4) : S256x256.Slices ![0, 64 * hh.val] S256x64 := by revert hh; decide

/-- The offset of head `h`'s rows of device `d` in the keys and in the values. -/
def koff (h : Fin 64) (d : Dev nD) : Fin 4 → Nat := ![k0_off1 d 0, 0, h.val, 0]
theorem koff_eq (h : Fin 64) (d : Dev nD) : koff h d = ![2 * d.val, 0, h.val, 0] := by
  unfold koff; rw [k0_off1_eq]; rfl
theorem koff_inb (h : Fin 64) (d : Dev nD) : ∀ a, koff h d a + S2x128x1x64.size a ≤ S32x128x64x64.size a := by
  rw [koff_eq]
  have h1 := h.isLt
  have h2 : d.val < 16 := d.isLt
  intro a
  fin_cases a
  · show 2 * d.val + 2 ≤ 32; omega
  · show 0 + 128 ≤ 128; omega
  · show h.val + 1 ≤ 64; omega
  · show 0 + 64 ≤ 64; omega

abbrev barS : Sem sig := (SemArray.scalar (sig.barrier 0 rfl) : Sems sig S_).sem

abbrev wqR (s : Fin 16) : Rect S16x512x256 := Rect.unit (s := S16x512x256) ![s.val, 0, 0] S1x512x256.size (inb_wq s)
abbrev woR (s : Fin 16) : Rect S16x256x512 := Rect.unit (s := S16x256x512) ![s.val, 0, 0] S1x256x512.size (inb_wo s)
abbrev wohR (s : Fin 16) (hh : Fin 4) : Rect S16x256x512 :=
  Rect.unit (s := S16x256x512) ![s.val, 64 * hh.val, 0] S1x64x512.size (inb_woh s hh)
abbrev ktR (h : Fin 64) : Rect S64x2x128x64 := Rect.unit (s := S64x2x128x64) ![h.val, 0, 0, 0] S1x2x128x64.size (inb_kt h)
abbrev khR (h : Fin 64) (d : Dev nD) : Rect S32x128x64x64 :=
  Rect.unit (s := S32x128x64x64) (koff h d) S2x128x1x64.size (koff_inb h d)
abbrev khdR (d : Dev nD) (r : Fin 16) (hh : Fin 4) : Rect S64x2x128x64 :=
  Rect.unit (s := S64x2x128x64) (k0_off65 d (BitVec.ofNat 32 r.val) (BitVec.ofNat 32 hh.val)) S1x2x128x64.size
    (k0_off65_inb d r hh)
abbrev accR : Rect S256x512 := Rect.unit (s := S256x512) ![0, 0] S256x512.size inb_S256x512_S256x512_0_0

/-- Slot `s` of the two ring buffers, head `h`'s window of the two local buffers and of their sources. -/
abbrev wqSlot (s : Fin 16) : Memref sig .tc .vmem S512x256 .f32 :=
  (wqB.slice (wqR s) (fun _ => rfl)).squeeze S512x256 squeezes_S1x512x256_S512x256
abbrev woSlot (s : Fin 16) : Memref sig .tc .vmem S256x512 .f32 :=
  (woB.slice (woR s) (fun _ => rfl)).squeeze S256x512 squeezes_S1x256x512_S256x512
abbrev ktW (h : Fin 64) : Memref sig .tc .vmem S2x128x64 .f32 :=
  (ktB.slice (ktR h) (fun _ => rfl)).squeeze S2x128x64 squeezes_S1x2x128x64_S2x128x64
abbrev vtW (h : Fin 64) : Memref sig .tc .vmem S2x128x64 .f32 :=
  (vtB.slice (ktR h) (fun _ => rfl)).squeeze S2x128x64 squeezes_S1x2x128x64_S2x128x64
abbrev kW (h : Fin 64) (d : Dev nD) : Memref sig .tc .hbm S2x128x64 .f32 :=
  (kM.slice (khR h d) (fun _ => rfl)).squeeze S2x128x64 squeezes_S2x128x1x64_S2x128x64
abbrev vW (h : Fin 64) (d : Dev nD) : Memref sig .tc .hbm S2x128x64 .f32 :=
  (vM.slice (khR h d) (fun _ => rfl)).squeeze S2x128x64 squeezes_S2x128x1x64_S2x128x64

/-! ## Neighbours and lanes -/

/-- The neighbours, as the kernel computes them. -/
abbrev leftB (d : Dev nD) : Dev nD := ⟨k0_dev1 d, k0_dev1_lt d⟩
abbrev rightB (d : Dev nD) : Dev nD := ⟨k0_dev2 d, k0_dev2_lt d⟩
abbrev rightD (d : Dev nD) : Dev nD := ⟨k0_dev3 d, k0_dev3_lt d⟩
abbrev leftD (d : Dev nD) : Dev nD := ⟨k0_dev5 d, k0_dev5_lt d⟩

/-! A lane is one of the fifteen shard transfers: lanes 0 to 7 go clockwise, lane `h` moving slot `h` to slot `h + 1`
of the next device; lanes 8 to 14 go counter-clockwise, lane `8 + h` moving slot `-h` to slot `-h - 1` of the device
before. -/

abbrev Lane : Type := Fin 15
abbrev cwI (h : Fin 8) : Lane := ⟨h.val, by omega⟩
abbrev ccwI (h : Fin 7) : Lane := ⟨8 + h.val, by omega⟩
/-- The slot a lane reads and the slot it fills. -/
def srcS (i : Lane) : Fin 16 := if i.val < 8 then ⟨i.val, by omega⟩ else ⟨(24 - i.val) % 16, by omega⟩
def dstS (i : Lane) : Fin 16 := if i.val < 8 then ⟨i.val + 1, by omega⟩ else ⟨(23 - i.val) % 16, by omega⟩
/-- The device a lane sends to. -/
def toD (d : Dev nD) (i : Lane) : Dev nD := if i.val < 8 then rightD d else leftD d
/-- A lane's semaphores at the sender and at the receiver; `false` for the query weights, `true` for the output weights. -/
def sS : Bool → Lane → DmaSem sig
  | false, i => if i.val < 8 then ⟨4 + i.val, by have := i.isLt; show _ < 66; omega⟩ else ⟨12 + i.val, by have := i.isLt; show _ < 66; omega⟩
  | true, i => if i.val < 8 then ⟨34 + i.val, by have := i.isLt; show _ < 66; omega⟩ else ⟨42 + i.val, by have := i.isLt; show _ < 66; omega⟩
def rS : Bool → Lane → DmaSem sig
  | false, i => if i.val < 8 then ⟨12 + i.val, by have := i.isLt; show _ < 66; omega⟩ else ⟨19 + i.val, by have := i.isLt; show _ < 66; omega⟩
  | true, i => if i.val < 8 then ⟨42 + i.val, by have := i.isLt; show _ < 66; omega⟩ else ⟨49 + i.val, by have := i.isLt; show _ < 66; omega⟩
/-- The semaphores of the local copies of the keys and of the values. -/
def lS : Bool → DmaSem sig
  | false => ⟨64, by decide⟩
  | true => ⟨65, by decide⟩

/-! ## The values -/

/-- The attention mask of the 256 query rows against the 256 key rows, one or zero. -/
def maskV : FVec F S256x256 .f32 :=
  let i0 : IVec S256x256 32 := iota .tc S256x256 32 [0] iota_S256x256_d0_w32
  let i1 : IVec S256x256 32 := iota .tc S256x256 32 [1] iota_S256x256_d1_w32
  k0_pay16 k0_pay4 (k0_pay8 i1 k0_pay5 k0_pay6 k0_pay7) (k0_pay13 (k0_pay10 i0) (k0_pay11 i0) k0_pay12) (k0_pay14 i1)
    (k0_pay15 i1 (k0_pay10 i0) (k0_pay11 i0) k0_pay12)

/-- The four heads' queries of one shard. -/
def queryV (x : FVec F S256x512 .f32) (w : Vec F S1x512x256 .f32) : FVec F S256x256 .f32 :=
  matmul dot_S256x512_S512x256_S256x256_1_0_0_1_n_n none x (shapeCast S512x256 w shapeCasts_S1x512x256_S512x256)
    (constant S256x256 .f32 0x00000000#32)

/-- A head's rows as a matrix. -/
def rowsV (k : Vec F S1x2x128x64 .f32) : FVec F S256x64 .f32 :=
  shapeCast S256x64 (shapeCast S2x128x64 k shapeCasts_S1x2x128x64_S2x128x64 : FVec F S2x128x64 .f32) shapeCasts_S2x128x64_S256x64

/-- The exponentials of a head's scores, masked. -/
def weightV (mask q : FVec F S256x256 .f32) (hh : Fin 4) (k : Vec F S1x2x128x64 .f32) : FVec F S256x256 .f32 :=
  mulf (exp (matmul dot_S256x64_S256x64_S256x256_1_1_0_0_n_n none
    (extractStridedSlice S256x64 ![0, 64 * hh.val] q (slices_q hh)) (rowsV k) (constant S256x256 .f32 0x00000000#32))) mask

/-- A head's context from its weights: the weighted values over the weights' row sums. -/
def ctxV (w : FVec F S256x256 .f32) (v : Vec F S1x2x128x64 .f32) : FVec F S256x64 .f32 :=
  mulf (matmul dot_S256x256_S256x64_S256x64_1_0_0_1_n_n none w (rowsV v) (constant S256x64 .f32 0x00000000#32))
    (broadcastTo S256x64 (divf (broadcast S256x1 (Scalar.ofBits .f32 0x3F800000#32))
      (shapeCast S256x1 (multiReduction .add [1] S256 w 0x00000000#32 reduces_S256x256_S256 (.inl rfl) rfl) shapeCasts_S256_S256x1))
      broadcasts_S256x1_S256x64)

/-- A head's contribution to the output. -/
def headV (mask q : FVec F S256x256 .f32) (hh : Fin 4) (k v : Vec F S1x2x128x64 .f32) (o : Vec F S1x64x512 .f32) :
    FVec F S256x512 .f32 :=
  matmul dot_S256x64_S64x512_S256x512_1_0_0_1_n_n none (ctxV (weightV mask q hh k) v)
    (shapeCast S64x512 o shapeCasts_S1x64x512_S64x512) (constant S256x512 .f32 0x00000000#32)

/-- A shard's contribution: its four heads', added left to right. -/
def shardV (x : FVec F S256x512 .f32) (mask : FVec F S256x256 .f32) (w : Vec F S1x512x256 .f32)
    (k v : Fin 4 → Vec F S1x2x128x64 .f32) (o : Fin 4 → Vec F S1x64x512 .f32) : FVec F S256x512 .f32 :=
  addf (addf (addf (headV mask (queryV x w) 0 (k 0) (v 0) (o 0)) (headV mask (queryV x w) 1 (k 1) (v 1) (o 1)))
    (headV mask (queryV x w) 2 (k 2) (v 2) (o 2))) (headV mask (queryV x w) 3 (k 3) (v 3) (o 3))

/-- What the accumulator is stored with. -/
def castV (a : FVec F S256x512 .f32) : FVec F S256x512 .f32 := shapeCast S256x512 a shapeCasts_S256x512_S256x512

/-! ## The program -/

abbrev PF (F : FTy → Type) : Type 1 := Prog (TpuEff nD τ sig (Elt F) Λ₀ .tc) PUnit

abbrev copyK (d : Dev nD) (h : Fin 64) (k : PF F) : PF F :=
  .op (.enqueueDma (kW h d) (.here (ktW h)) (.dma (lS false)) ((View.wordExact_bits rfl).reshape _ _)
    ((View.wordExact_bits rfl).reshape _ _) ⟨Or.inl rfl, trivial⟩) fun _ => k
abbrev copyV (d : Dev nD) (h : Fin 64) (k : PF F) : PF F :=
  .op (.enqueueDma (vW h d) (.here (vtW h)) (.dma (lS true)) ((View.wordExact_bits rfl).reshape _ _)
    ((View.wordExact_bits rfl).reshape _ _) ⟨Or.inl rfl, trivial⟩) fun _ => k
abbrev waitK (d : Dev nD) (h : Fin 64) (k : PF F) : PF F :=
  .op (.waitDma2 (lS false) (kW h d) (ktW h) ((View.wordExact_bits rfl).reshape _ _)
    ((View.wordExact_bits rfl).reshape _ _)) fun _ => k
abbrev waitV (d : Dev nD) (h : Fin 64) (k : PF F) : PF F :=
  .op (.waitDma2 (lS true) (vW h d) (vtW h) ((View.wordExact_bits rfl).reshape _ _)
    ((View.wordExact_bits rfl).reshape _ _)) fun _ => k

/-- The 64 heads. -/
def heads : List (Fin 64) :=
  [0, 1, 2, 3, 4, 5, 6, 7, 8, 9, 10, 11, 12, 13, 14, 15, 16, 17, 18, 19, 20, 21, 22, 23, 24, 25, 26, 27, 28, 29, 30, 31,
   32, 33, 34, 35, 36, 37, 38, 39, 40, 41, 42, 43, 44, 45, 46, 47, 48, 49, 50, 51, 52, 53, 54, 55, 56, 57, 58, 59, 60, 61, 62, 63]

/-- Run `f` for each member of a list in turn, then `k`. -/
def each {A : Type} {B : Type 1} (f : A → B → B) : List A → B → B
  | [], k => k
  | a :: l, k => f a (each f l k)

abbrev copyHead (d : Dev nD) (h : Fin 64) (k : PF F) : PF F := copyK d h (copyV d h k)
abbrev waitHead (d : Dev nD) (h : Fin 64) (k : PF F) : PF F := waitK d h (waitV d h k)

abbrev sendWq (src dst : Fin 16) (sS sR : DmaSem sig) (tgt : Dev nD) (k : PF F) : PF F :=
  .op (.enqueueDma (wqSlot src) (.remote (Dev.tc tgt) (wqSlot dst) (.dma sS)) (.dma sR) ((View.wordExact_bits rfl).reshape _ _)
    ((View.wordExact_bits rfl).reshape _ _) ⟨⟨rfl, Or.inl rfl⟩, trivial⟩) fun _ => k
abbrev sendWo (src dst : Fin 16) (sS sR : DmaSem sig) (tgt : Dev nD) (k : PF F) : PF F :=
  .op (.enqueueDma (woSlot src) (.remote (Dev.tc tgt) (woSlot dst) (.dma sS)) (.dma sR) ((View.wordExact_bits rfl).reshape _ _)
    ((View.wordExact_bits rfl).reshape _ _) ⟨⟨rfl, Or.inl rfl⟩, trivial⟩) fun _ => k
abbrev waitWq (a b : Fin 16) (s : DmaSem sig) (k : PF F) : PF F :=
  .op (.waitDma2 s (wqSlot a) (wqSlot b) ((View.wordExact_bits rfl).reshape _ _) ((View.wordExact_bits rfl).reshape _ _)) fun _ => k
abbrev waitWo (a b : Fin 16) (s : DmaSem sig) (k : PF F) : PF F :=
  .op (.waitDma2 s (woSlot a) (woSlot b) ((View.wordExact_bits rfl).reshape _ _) ((View.wordExact_bits rfl).reshape _ _)) fun _ => k

abbrev sendLane (d : Dev nD) (i : Lane) (k : PF F) : PF F :=
  sendWq (srcS i) (dstS i) (sS false i) (rS false i) (toD d i) (sendWo (srcS i) (dstS i) (sS true i) (rS true i) (toD d i) k)
abbrev waitLane (i : Lane) (k : PF F) : PF F :=
  waitWq (dstS i) (srcS i) (sS false i) (waitWq (srcS i) (dstS i) (rS false i)
    (waitWo (dstS i) (srcS i) (sS true i) (waitWo (srcS i) (dstS i) (rS true i) k)))

abbrev loadHead (d : Dev nD) (r : Fin 16) (hh : Fin 4)
    (k : Vec F S1x2x128x64 .f32 → Vec F S1x2x128x64 .f32 → Vec F S1x64x512 .f32 → PF F) : PF F :=
  .op (.load ktB (khdR d r hh).toLoadRect (View.loadsAt_vmem h_S1x2x128x64)) fun a =>
  .op (.load vtB (khdR d r hh).toLoadRect (View.loadsAt_vmem h_S1x2x128x64)) fun b =>
  .op (.load woB (wohR r hh).toLoadRect (View.loadsAt_vmem h_S1x64x512)) fun o => k a b o

/-- The contribution of ring slot `r`, handed to `k`. -/
abbrev shard (d : Dev nD) (x : FVec F S256x512 .f32) (r : Fin 16) (k : FVec F S256x512 .f32 → PF F) : PF F :=
  .op (.load wqB (wqR r).toLoadRect (View.loadsAt_vmem h_S1x512x256)) fun w =>
  loadHead d r 0 fun k0 v0 o0 => loadHead d r 1 fun k1 v1 o1 => loadHead d r 2 fun k2 v2 o2 => loadHead d r 3 fun k3 v3 o3 =>
    k (shardV x maskV w ![k0, k1, k2, k3] ![v0, v1, v2, v3] ![o0, o1, o2, o3])

abbrev storeAcc (v : FVec F S256x512 .f32) (k : PF F) : PF F :=
  .op (.load accB accR.toLoadRect (View.loadsAt_vmem h_S256x512)) fun _ =>
  .op (.store accB accR (castV v) Finset.univ (View.stores_vmem_bits_univ h_S256x512 rfl) (.inl rfl)) fun _ => k

abbrev loadAcc (k : Vec F S256x512 .f32 → PF F) : PF F :=
  .op (.load accB accR.toLoadRect (View.loadsAt_vmem h_S256x512)) fun a => k a

abbrev setShard (d : Dev nD) (x : FVec F S256x512 .f32) (r : Fin 16) (k : PF F) : PF F :=
  shard d x r fun v => storeAcc v k
abbrev addShard (d : Dev nD) (x : FVec F S256x512 .f32) (r : Fin 16) (k : PF F) : PF F :=
  loadAcc fun a => shard d x r fun v => storeAcc (addf a v) k

/-- A hop of the middle: both directions sent, two shards added, both directions awaited. -/
abbrev hop (d : Dev nD) (x : FVec F S256x512 .f32) (h : Fin 7) (k : PF F) : PF F :=
  sendLane d (cwI h.castSucc) <| sendLane d (ccwI h) <| addShard d x (srcS (cwI h.castSucc)) <| addShard d x (srcS (ccwI h)) <|
  waitLane (cwI h.castSucc) <| waitLane (ccwI h) k

abbrev finish (k : PF F) : PF F :=
  .op (.load accB accR.toLoadRect (View.loadsAt_vmem h_S256x512)) fun a =>
  .op (.load outM (Rect.unit (s := S2x128x512) ![0, 0, 0] S2x128x512.size inb_S2x128x512_S2x128x512_0_0_0).toLoadRect
    (View.loadsAt_vmem h_S2x128x512)) fun _ =>
  .op (.store outM (Rect.unit (s := S2x128x512) ![0, 0, 0] S2x128x512.size inb_S2x128x512_S2x128x512_0_0_0) (k0_pay178 a) Finset.univ
    (View.stores_vmem_bits_univ h_S2x128x512 rfl) (.inl rfl)) fun _ => k

/-- Hops 0 to 7 and the last shard. -/
abbrev ring (d : Dev nD) (x : FVec F S256x512 .f32) (k : PF F) : PF F :=
  sendLane d (cwI 0) <| sendLane d (ccwI 0) <| setShard d x 0 <| waitLane (cwI 0) <| waitLane (ccwI 0) <|
  each (hop d x) [1, 2, 3, 4, 5, 6] <|
  sendLane d (cwI 7) <| addShard d x (srcS (cwI 7)) <| addShard d x 9 <| waitLane (cwI 7) <|
  addShard d x (dstS (cwI 7)) <| finish k

abbrev fill (k : PF F) : PF F :=
  .op (.load wqM (Rect.unit (s := S512x256) ![0, 0] S512x256.size inb_S512x256_S512x256_0_0).toLoadRect (View.loadsAt_vmem h_S512x256)) fun w =>
  .op (.load wqB (wqR 0).toLoadRect (View.loadsAt_vmem h_S1x512x256)) fun _ =>
  .op (.store wqB (wqR 0) (k0_pay1 w) Finset.univ (View.stores_vmem_bits_univ h_S1x512x256 rfl) (.inl rfl)) fun _ =>
  .op (.load woM (Rect.unit (s := S256x512) ![0, 0] S256x512.size inb_S256x512_S256x512_0_0).toLoadRect (View.loadsAt_vmem h_S256x512)) fun w =>
  .op (.load woB (woR 0).toLoadRect (View.loadsAt_vmem h_S1x256x512)) fun _ =>
  .op (.store woB (woR 0) (k0_pay2 w) Finset.univ (View.stores_vmem_bits_univ h_S1x256x512 rfl) (.inl rfl)) fun _ => k

/-- The whole body. -/
def bodyP : PF F :=
  .op .deviceId fun d =>
  .op (.semSignal (Dev.tc (leftB d)) barS (1#32 : BitVec 32).toInt) fun _ =>
  .op (.semSignal (Dev.tc (rightB d)) barS (1#32 : BitVec 32).toInt) fun _ =>
  .op (.semWait barS (2#32 : BitVec 32).toInt) fun _ =>
  each (copyHead d) heads <| fill <| each (waitHead d) heads <|
  .op (.load xM (Rect.unit (s := S2x128x512) ![0, 0, 0] S2x128x512.size inb_S2x128x512_S2x128x512_0_0_0).toLoadRect
    (View.loadsAt_vmem h_S2x128x512)) fun x =>
  ring d (k0_pay3 x) (.ret ⟨⟩)

set_option maxRecDepth 65536 in
/-- The printed body is the loops. -/
theorem body_eq : bodyAt0 (F := F) t0_0 = bodyP := by
  chain_rfl

end Cert.KernelIdeal.Attn

end
-- ==== Proof.KernelIdeal.Contents.lean ====
/-
# What the buffers hold

The windows of the buffers, element by element, and the contents each buffer has once it is filled: slot `s` of a ring
buffer of device `c` holds the shard of device `c - s`, and the local buffers hold the device's own rows, head by head.
-/
module

public import proofs.«01_k».proof.Proof.KernelIdeal.Shape
public import Idealize.ShloMosaic.Lib.ValueLayout

@[expose] public section

noncomputable section

namespace Cert.KernelIdeal.Attn

open Cert.KernelIdeal Cert.KernelIdeal.Gen
open Idealize.ShloMosaic Idealize.ShloMosaic.TcCoe
open Idealize.SL Idealize.SL.Sem
open Idealize.ShloMosaic.ValueIdx

variable {F : FTy → Type} [FloatOps F]

/-! ## Neighbours -/

theorem rightB_val (c : Dev nD) : (rightB c).val = (c.val + 1) % 16 := k0_dev2_eq c
theorem leftB_val (c : Dev nD) : (leftB c).val = (c.val + 15) % 16 := k0_dev1_eq c
theorem toD_val (c : Dev nD) (i : Lane) : (toD c i).val = if i.val < 8 then (c.val + 1) % 16 else (c.val + 15) % 16 := by
  unfold toD
  by_cases h : i.val < 8
  · rw [if_pos h, if_pos h]; exact k0_dev3_eq c
  · rw [if_neg h, if_neg h]; exact k0_dev5_eq c

/-- The device whose shard slot `s` of device `c` holds. -/
def org (c : Dev nD) (s : Fin 16) : Dev nD := ⟨(c.val + 16 - s.val) % 16, Nat.mod_lt _ (by decide)⟩

theorem org_zero (c : Dev nD) : org c 0 = c :=
  Fin.ext (by have : c.val < 16 := c.isLt; show (c.val + 16 - 0) % 16 = c.val; omega)

/-- A lane carries a shard from the slot that holds it to the slot that should. -/
theorem org_lane (c : Dev nD) (i : Lane) : org (toD c i) (dstS i) = org c (srcS i) := by
  apply Fin.ext
  show ((toD c i).val + 16 - (dstS i).val) % 16 = (c.val + 16 - (srcS i).val) % 16
  rw [toD_val]
  have hc : c.val < 16 := c.isLt
  have hi := i.isLt
  unfold dstS srcS
  by_cases h : i.val < 8
  · simp only [if_pos h]; omega
  · simp only [if_neg h]; omega

/-! ## Views read and written -/

/-- Writing what another contents reads through a view makes the two agree on the view's elements. -/
theorem write_agree {sp : Space} {s : Shape} {e : EltTy} (v : View sig .tc sp s e) (fd g : v.ty.Contents (Elt F)) (w : s.Idx → Elt F e)
    (h : v.read (Elt F) g = w) : ∀ i ∈ v.set, v.write (Elt F) fd w Finset.univ i = g i := by
  intro i hi
  obtain ⟨x, rfl⟩ : ∃ x, v.emb x = i := by
    obtain ⟨x, -, hx⟩ := Finset.mem_map.mp hi
    exact ⟨x, hx⟩
  rw [View.write_emb_of_mem _ _ (Finset.mem_univ x), ← h, View.read_apply, cast_cast, cast_eq]

/-! ## Elements of the windows -/

theorem wq_emb (s : Fin 16) (j : S512x256.Idx) :
    (wqSlot s).view.emb j = (ix3 (n0 := 16) (n1 := 512) (n2 := 256) s (j 0) (j 1)) := by
  have h := reshapeEquiv_ix2_1ab (a := 512) (b := 256) squeezes_S1x512x256_S512x256.numel_eq (j 0) (j 1)
  rw [show (ix2 (j 0) (j 1) : (⟨2, ![512, 256]⟩ : Shape).Idx) = j from (eq_ix2 j).symm] at h
  show (wqR s).emb (Shape.reshapeEquiv squeezes_S1x512x256_S512x256.numel_eq j) = _
  rw [h]
  funext a; apply Fin.ext; rw [Rect.emb_apply]
  fin_cases a
  · show s.val + 1 * 0 = s.val; omega
  · show 0 + 1 * (j 0).val = (j 0).val; omega
  · show 0 + 1 * (j 1).val = (j 1).val; omega

theorem wo_emb (s : Fin 16) (j : S256x512.Idx) :
    (woSlot s).view.emb j = (ix3 (n0 := 16) (n1 := 256) (n2 := 512) s (j 0) (j 1)) := by
  have h := reshapeEquiv_ix2_1ab (a := 256) (b := 512) squeezes_S1x256x512_S256x512.numel_eq (j 0) (j 1)
  rw [show (ix2 (j 0) (j 1) : (⟨2, ![256, 512]⟩ : Shape).Idx) = j from (eq_ix2 j).symm] at h
  show (woR s).emb (Shape.reshapeEquiv squeezes_S1x256x512_S256x512.numel_eq j) = _
  rw [h]
  funext a; apply Fin.ext; rw [Rect.emb_apply]
  fin_cases a
  · show s.val + 1 * 0 = s.val; omega
  · show 0 + 1 * (j 0).val = (j 0).val; omega
  · show 0 + 1 * (j 1).val = (j 1).val; omega

theorem kt_emb (h : Fin 64) (j : S2x128x64.Idx) :
    (ktR h).emb (Shape.reshapeEquiv squeezes_S1x2x128x64_S2x128x64.numel_eq j)
      = (ix4 (n0 := 64) (n1 := 2) (n2 := 128) (n3 := 64) h (j 0) (j 1) (j 2)) := by
  have e := reshapeEquiv_ix3_1abc (a := 2) (b := 128) (c := 64) squeezes_S1x2x128x64_S2x128x64.numel_eq (j 0) (j 1) (j 2)
  rw [show (ix3 (j 0) (j 1) (j 2) : (⟨3, ![2, 128, 64]⟩ : Shape).Idx) = j from (eq_ix3 j).symm] at e
  rw [e]
  funext a; apply Fin.ext; rw [Rect.emb_apply]
  fin_cases a
  · show h.val + 1 * 0 = h.val; omega
  · show 0 + 1 * (j 0).val = (j 0).val; omega
  · show 0 + 1 * (j 1).val = (j 1).val; omega
  · show 0 + 1 * (j 2).val = (j 2).val; omega

/-- Row `b` of device `c` in a replicated argument. -/
def rowB (c : Dev nD) (b : Fin 2) : Fin 32 := ⟨2 * c.val + b.val, by have : c.val < 16 := c.isLt; omega⟩

theorem squeeze_k (j : S2x128x64.Idx) :
    Shape.reshapeEquiv squeezes_S2x128x1x64_S2x128x64.numel_eq j
      = (ix4 (n0 := 2) (n1 := 128) (n2 := 1) (n3 := 64) (j 0) (j 1) 0 (j 2)) := by
  apply Shape.reshapeEquiv_eq_of_rowMajor
  rw [Shape.rowMajor_val_four, Shape.rowMajor_val_three]
  show ((((j 0).val * 128 + (j 1).val) * 1 + 0) * 64 + (j 2).val) = ((j 0).val * 128 + (j 1).val) * 64 + (j 2).val
  omega

theorem k_emb (h : Fin 64) (c : Dev nD) (j : S2x128x64.Idx) :
    (khR h c).emb (Shape.reshapeEquiv squeezes_S2x128x1x64_S2x128x64.numel_eq j)
      = (ix4 (n0 := 32) (n1 := 128) (n2 := 64) (n3 := 64) (rowB c (j 0)) (j 1) h (j 2)) := by
  rw [squeeze_k]
  funext a; apply Fin.ext; rw [Rect.emb_apply]
  have e : (khR h c).off = koff h c := rfl
  rw [e, koff_eq]
  fin_cases a
  · show 2 * c.val + 1 * (j 0).val = 2 * c.val + (j 0).val; omega
  · show 0 + 1 * (j 1).val = (j 1).val; omega
  · show h.val + 1 * 0 = h.val; omega
  · show 0 + 1 * (j 2).val = (j 2).val; omega

/-! ## The elements of each window, as sets -/

theorem set_wqSlot (s : Fin 16) : (wqSlot s).view.set = (wqR s).set := by
  show ((wqB.view.slice (wqR s)).reshape _ _).set = _
  rw [View.set_reshape]; exact View.set_slice_whole _ _
theorem set_woSlot (s : Fin 16) : (woSlot s).view.set = (woR s).set := by
  show ((woB.view.slice (woR s)).reshape _ _).set = _
  rw [View.set_reshape]; exact View.set_slice_whole _ _
theorem set_ktW (h : Fin 64) : (ktW h).view.set = (ktR h).set := by
  show ((ktB.view.slice (ktR h)).reshape _ _).set = _
  rw [View.set_reshape]; exact View.set_slice_whole _ _
theorem set_vtW (h : Fin 64) : (vtW h).view.set = (ktR h).set := by
  show ((vtB.view.slice (ktR h)).reshape _ _).set = _
  rw [View.set_reshape]; exact View.set_slice_whole _ _
theorem set_kW (h : Fin 64) (c : Dev nD) : (kW h c).view.set = (khR h c).set := by
  show ((kM.view.slice (khR h c)).reshape _ _).set = _
  rw [View.set_reshape]; exact View.set_slice_whole _ _
theorem set_vW (h : Fin 64) (c : Dev nD) : (vW h c).view.set = (khR h c).set := by
  show ((vM.view.slice (khR h c)).reshape _ _).set = _
  rw [View.set_reshape]; exact View.set_slice_whole _ _

theorem mem_wqR (s : Fin 16) (x : S16x512x256.Idx) : x ∈ (wqR s).set ↔ x 0 = s := by
  rw [Rect.mem_set_unit]
  constructor
  · intro h; have := h 0; apply Fin.ext
    have h1 : s.val ≤ (x 0).val := this.1
    have h2 : (x 0).val < s.val + 1 := this.2
    omega
  · rintro rfl a
    have h1 : (x 1).val < 512 := (x 1).isLt
    have h2 : (x 2).val < 256 := (x 2).isLt
    fin_cases a
    · exact ⟨Nat.le_refl _, Nat.lt_succ_self _⟩
    · exact ⟨Nat.zero_le _, by show (x 1).val < 0 + 512; omega⟩
    · exact ⟨Nat.zero_le _, by show (x 2).val < 0 + 256; omega⟩

theorem mem_woR (s : Fin 16) (x : S16x256x512.Idx) : x ∈ (woR s).set ↔ x 0 = s := by
  rw [Rect.mem_set_unit]
  constructor
  · intro h; have := h 0; apply Fin.ext
    have h1 : s.val ≤ (x 0).val := this.1
    have h2 : (x 0).val < s.val + 1 := this.2
    omega
  · rintro rfl a
    have h1 : (x 1).val < 256 := (x 1).isLt
    have h2 : (x 2).val < 512 := (x 2).isLt
    fin_cases a
    · exact ⟨Nat.le_refl _, Nat.lt_succ_self _⟩
    · exact ⟨Nat.zero_le _, by show (x 1).val < 0 + 256; omega⟩
    · exact ⟨Nat.zero_le _, by show (x 2).val < 0 + 512; omega⟩

theorem mem_ktR (h : Fin 64) (x : S64x2x128x64.Idx) : x ∈ (ktR h).set ↔ x 0 = h := by
  rw [Rect.mem_set_unit]
  constructor
  · intro e; have := e 0; apply Fin.ext
    have h1 : h.val ≤ (x 0).val := this.1
    have h2 : (x 0).val < h.val + 1 := this.2
    omega
  · rintro rfl a
    have h1 : (x 1).val < 2 := (x 1).isLt
    have h2 : (x 2).val < 128 := (x 2).isLt
    have h3 : (x 3).val < 64 := (x 3).isLt
    fin_cases a
    · exact ⟨Nat.le_refl _, Nat.lt_succ_self _⟩
    · exact ⟨Nat.zero_le _, by show (x 1).val < 0 + 2; omega⟩
    · exact ⟨Nat.zero_le _, by show (x 2).val < 0 + 128; omega⟩
    · exact ⟨Nat.zero_le _, by show (x 3).val < 0 + 64; omega⟩

theorem khR_col (h : Fin 64) (c : Dev nD) (x : S32x128x64x64.Idx) (hx : x ∈ (khR h c).set) : x 2 = h := by
  rw [Rect.mem_set_unit] at hx
  have := hx 2
  rw [koff_eq] at this
  apply Fin.ext
  have h1 : h.val ≤ (x 2).val := this.1
  have h2 : (x 2).val < h.val + 1 := this.2
  omega

theorem disj_wqR {s s' : Fin 16} (h : s ≠ s') : Disjoint (wqR s).set (wqR s').set :=
  Finset.disjoint_left.mpr fun x hx hx' => h (((mem_wqR s x).mp hx).symm.trans ((mem_wqR s' x).mp hx'))
theorem disj_woR {s s' : Fin 16} (h : s ≠ s') : Disjoint (woR s).set (woR s').set :=
  Finset.disjoint_left.mpr fun x hx hx' => h (((mem_woR s x).mp hx).symm.trans ((mem_woR s' x).mp hx'))
theorem disj_ktR {s s' : Fin 64} (h : s ≠ s') : Disjoint (ktR s).set (ktR s').set :=
  Finset.disjoint_left.mpr fun x hx hx' => h (((mem_ktR s x).mp hx).symm.trans ((mem_ktR s' x).mp hx'))
theorem disj_khR (c : Dev nD) {s s' : Fin 64} (h : s ≠ s') : Disjoint (khR s c).set (khR s' c).set :=
  Finset.disjoint_left.mpr fun x hx hx' => h ((khR_col s c x hx).symm.trans (khR_col s' c x hx'))

theorem cover_wqR : (Finset.univ : Finset (Fin 16)).biUnion (fun s => (wqR s).set) = Finset.univ :=
  Finset.eq_univ_iff_forall.mpr fun x => Finset.mem_biUnion.mpr ⟨x 0, Finset.mem_univ _, (mem_wqR _ x).mpr rfl⟩
theorem cover_woR : (Finset.univ : Finset (Fin 16)).biUnion (fun s => (woR s).set) = Finset.univ :=
  Finset.eq_univ_iff_forall.mpr fun x => Finset.mem_biUnion.mpr ⟨x 0, Finset.mem_univ _, (mem_woR _ x).mpr rfl⟩
theorem cover_ktR : (Finset.univ : Finset (Fin 64)).biUnion (fun s => (ktR s).set) = Finset.univ :=
  Finset.eq_univ_iff_forall.mpr fun x => Finset.mem_biUnion.mpr ⟨x 0, Finset.mem_univ _, (mem_ktR _ x).mpr rfl⟩

/-- The four heads' rows of a slot lie in the slot. -/
theorem wohR_subset (s : Fin 16) (hh : Fin 4) : (wohR s hh).set ⊆ (woR s).set := fun x hx => by
  rw [Rect.mem_set_unit] at hx
  refine (mem_woR s x).mpr (Fin.ext ?_)
  have h1 : s.val ≤ (x 0).val := (hx 0).1
  have h2 : (x 0).val < s.val + 1 := (hx 0).2
  omega

/-! ## The contents -/

section Values

/-- A ring buffer whose slot `s` holds the shard of device `c - s`, from each device's shard. -/
def ringQ (W : Dev nD → Vec F S1x512x256 .f32) (c : Dev nD) : (cc0_scratch0 : Ref sig .tc).ty.Contents (Elt F) :=
  fun x : S16x512x256.Idx => W (org c (x 0)) (ix3 (n0 := 1) (n1 := 512) (n2 := 256) 0 (x 1) (x 2))
def ringO (W : Dev nD → Vec F S1x256x512 .f32) (c : Dev nD) : (cc0_scratch1 : Ref sig .tc).ty.Contents (Elt F) :=
  fun x : S16x256x512.Idx => W (org c (x 0)) (ix3 (n0 := 1) (n1 := 256) (n2 := 512) 0 (x 1) (x 2))
/-- A device's own rows of a replicated argument, head by head. -/
def headsK (V : S32x128x64x64.Idx → Elt F .f32) (c : Dev nD) : S64x2x128x64.Idx → Elt F .f32 :=
  fun x => V (ix4 (n0 := 32) (n1 := 128) (n2 := 64) (n3 := 64) (rowB c (x 1)) (x 2) (x 0) (x 3))

theorem read_ringQ (W : Dev nD → Vec F S1x512x256 .f32) (c : Dev nD) (s : Fin 16) :
    (wqSlot s).view.read (Elt F) (ringQ W c) = fun j => W (org c s) (ix3 (n0 := 1) (n1 := 512) (n2 := 256) 0 (j 0) (j 1)) := by
  funext j
  show ringQ W c ((wqSlot s).view.emb j) = _
  rw [wq_emb]; rfl
theorem read_ringO (W : Dev nD → Vec F S1x256x512 .f32) (c : Dev nD) (s : Fin 16) :
    (woSlot s).view.read (Elt F) (ringO W c) = fun j => W (org c s) (ix3 (n0 := 1) (n1 := 256) (n2 := 512) 0 (j 0) (j 1)) := by
  funext j
  show ringO W c ((woSlot s).view.emb j) = _
  rw [wo_emb]; rfl

/-- What a lane lands is what the receiver's buffer should hold. -/
theorem lane_Q (W : Dev nD → Vec F S1x512x256 .f32) (c : Dev nD) (i : Lane) :
    (wqSlot (dstS i)).view.read (Elt F) (ringQ W (toD c i)) = (wqSlot (srcS i)).view.read (Elt F) (ringQ W c) := by
  rw [read_ringQ, read_ringQ, org_lane]
theorem lane_O (W : Dev nD → Vec F S1x256x512 .f32) (c : Dev nD) (i : Lane) :
    (woSlot (dstS i)).view.read (Elt F) (ringO W (toD c i)) = (woSlot (srcS i)).view.read (Elt F) (ringO W c) := by
  rw [read_ringO, read_ringO, org_lane]

/-- What is stored in slot 0 is the device's own shard. -/
theorem own_Q (W : Dev nD → Vec F S1x512x256 .f32) (c : Dev nD) :
    (wqB.access (wqR 0)).read (Elt F) (ringQ W c) = W c := by
  funext j
  show ringQ W c ((wqR 0).emb j) = _
  have e : (wqR 0).emb j = (ix3 (n0 := 16) (n1 := 512) (n2 := 256) 0 (j 1) (j 2)) := by
    have h0 : (j 0).val < 1 := (j 0).isLt
    funext a; apply Fin.ext; rw [Rect.emb_apply]
    fin_cases a
    · show 0 + 1 * (j 0).val = 0; omega
    · show 0 + 1 * (j 1).val = (j 1).val; omega
    · show 0 + 1 * (j 2).val = (j 2).val; omega
  rw [e]
  show W (org c 0) _ = _
  rw [org_zero]
  have h0 : j 0 = (0 : Fin 1) := Subsingleton.elim (α := Fin 1) _ _
  exact congrArg (W c) ((congrArg (fun t : Fin 1 => ix3 (n0 := 1) (n1 := 512) (n2 := 256) t (j 1) (j 2)) h0.symm).trans (eq_ix3 j).symm)
theorem own_O (W : Dev nD → Vec F S1x256x512 .f32) (c : Dev nD) :
    (woB.access (woR 0)).read (Elt F) (ringO W c) = W c := by
  funext j
  show ringO W c ((woR 0).emb j) = _
  have e : (woR 0).emb j = (ix3 (n0 := 16) (n1 := 256) (n2 := 512) 0 (j 1) (j 2)) := by
    have h0 : (j 0).val < 1 := (j 0).isLt
    funext a; apply Fin.ext; rw [Rect.emb_apply]
    fin_cases a
    · show 0 + 1 * (j 0).val = 0; omega
    · show 0 + 1 * (j 1).val = (j 1).val; omega
    · show 0 + 1 * (j 2).val = (j 2).val; omega
  rw [e]
  show W (org c 0) _ = _
  rw [org_zero]
  have h0 : j 0 = (0 : Fin 1) := Subsingleton.elim (α := Fin 1) _ _
  exact congrArg (W c) ((congrArg (fun t : Fin 1 => ix3 (n0 := 1) (n1 := 256) (n2 := 512) t (j 1) (j 2)) h0.symm).trans (eq_ix3 j).symm)

/-- What a local copy lands is the head's rows. -/
theorem copy_K (V : S32x128x64x64.Idx → Elt F .f32) (c : Dev nD) (h : Fin 64) :
    (ktW h).view.read (Elt F) (headsK V c) = (kW h c).view.read (Elt F) V := by
  funext j
  show headsK V c ((ktR h).emb (Shape.reshapeEquiv _ j)) = V ((khR h c).emb (Shape.reshapeEquiv _ j))
  rw [kt_emb, k_emb]; rfl
theorem copy_V (V : S32x128x64x64.Idx → Elt F .f32) (c : Dev nD) (h : Fin 64) :
    (vtW h).view.read (Elt F) (headsK V c) = (vW h c).view.read (Elt F) V := by
  funext j
  show headsK V c ((ktR h).emb (Shape.reshapeEquiv _ j)) = V ((khR h c).emb (Shape.reshapeEquiv _ j))
  rw [kt_emb, k_emb]; rfl

end Values

end Cert.KernelIdeal.Attn

end
-- ==== Proof.KernelIdeal.Protocol.lean ====
/-
# The protocol

Every semaphore of the kernel is a cell of one round. A local copy's cell has one duty a head; a lane's cell at the
sender returns the source slot, its cell at the receiver hands over the filled slot; the barrier's two duties are the
two neighbours' signals, each handing over the slots this device's lanes in that direction fill.
-/
module

public import proofs.«01_k».proof.Proof.KernelIdeal.Contents

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 64)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The cells -/

/-- A device's own cells: a lane's at the sender, a lane's at the receiver, a local copy's. -/
abbrev CI : Type := (Bool × Lane) ⊕ (Bool × Lane) ⊕ Bool
abbrev snd (w : Bool) (i : Lane) : CI := .inl (w, i)
abbrev rcv (w : Bool) (i : Lane) : CI := .inr (.inl (w, i))
abbrev loc (w : Bool) : CI := .inr (.inr w)

def osem : CI → SemLoc sig
  | .inl (w, i) => .dma (sS w i)
  | .inr (.inl (w, i)) => .dma (rS w i)
  | .inr (.inr w) => .dma (lS w)

/-- A cell's number among the transfer semaphores. -/
def onum : CI → ℕ
  | .inl (w, i) => (sS w i).val
  | .inr (.inl (w, i)) => (rS w i).val
  | .inr (.inr w) => (lS w).val

theorem onum_injective : Function.Injective onum := by
  have h : ∀ a b : CI, onum a = onum b → a = b := by decide +kernel
  exact fun a b => h a b
theorem osem_dma (k : CI) : ∃ q : DmaSem sig, osem k = .dma q ∧ q.val = onum k := by
  rcases k with ⟨w, i⟩ | ⟨w, i⟩ | w <;> exact ⟨_, rfl, rfl⟩
theorem osem_injective : Function.Injective osem := fun a b h => by
  obtain ⟨q, hq, hn⟩ := osem_dma a
  obtain ⟨q', hq', hn'⟩ := osem_dma b
  rw [hq, hq'] at h
  injection h with h
  exact onum_injective (by rw [← hn, ← hn', h])
theorem osem_ne_reg (k : CI) (s : Sem sig) : osem k ≠ .reg s := fun h => by
  obtain ⟨q, hq, -⟩ := osem_dma k
  rw [hq] at h; cases h

/-- The cell a semaphore is. -/
def owner (s : SemLoc sig) : Option CI := by
  classical exact if h : ∃ k, osem k = s then some h.choose else none
theorem owner_osem (k : CI) : owner (osem k) = some k := by
  unfold owner
  have h : ∃ k', osem k' = osem k := ⟨k, rfl⟩
  rw [dif_pos h]; exact congrArg some (osem_injective h.choose_spec)
theorem owner_none {s : SemLoc sig} (h : ∀ k, osem k ≠ s) : owner s = none := by
  unfold owner; rw [dif_neg (fun ⟨k, hk⟩ => h k hk)]
theorem owner_reg (s : Sem sig) : owner (.reg s) = none := owner_none fun k => osem_ne_reg k s

abbrev cellAt (c : Dev nD) (k : CI) : GSem nD τ sig := ((c : Thread nD τ), osem k)
abbrev barCell (c : Dev nD) : GSem nD τ sig := ((c : Thread nD τ), .reg barS)

/-- The credits of the transfers: a lane's and a local copy's. -/
def NR : Bool → ℕ
  | false => (wqSlot 0).view.dmaCredit
  | true => (woSlot 0).view.dmaCredit
def NL : Bool → ℕ
  | false => (ktW 0).view.dmaCredit
  | true => (vtW 0).view.dmaCredit
theorem NR_pos (w : Bool) : 0 < NR w := by cases w <;> exact View.dmaCredit_pos _ (by decide)
theorem NL_pos (w : Bool) : 0 < NL w := by cases w <;> exact View.dmaCredit_pos _ (by decide)

/-! ## What the buffers are to hold -/

/-- The shards of the weights, as stored, and the two replicated arguments. -/
structure Data (F : FTy → Type) [FloatOps F] where
  Wq : Dev nD → Vec F S1x512x256 .f32
  Wo : Dev nD → Vec F S1x256x512 .f32
  K : Dev nD → S32x128x64x64.Idx → Elt F .f32
  V : Dev nD → S32x128x64x64.Idx → Elt F .f32

variable (D : Data F)

/-- Slot `s` of device `c`'s ring buffers at a share, at any contents. -/
def slotQ (c : Dev nD) (s : Fin 16) (q : PosShare TreeShare) (f : (cc0_scratch0 : Ref sig .tc).ty.Contents (Elt F)) : sProp 𝕄 :=
  (wqSlot s).view.loc (c : Thread nD τ) ↦[(wqSlot s).view.set]{q} f
def slotO (c : Dev nD) (s : Fin 16) (q : PosShare TreeShare) (f : (cc0_scratch1 : Ref sig .tc).ty.Contents (Elt F)) : sProp 𝕄 :=
  (woSlot s).view.loc (c : Thread nD τ) ↦[(woSlot s).view.set]{q} f
/-- Slot `s` filled. -/
def fullQ (c : Dev nD) (s : Fin 16) (q : PosShare TreeShare) : sProp 𝕄 := slotQ c s q (ringQ D.Wq c)
def fullO (c : Dev nD) (s : Fin 16) (q : PosShare TreeShare) : sProp 𝕄 := slotO c s q (ringO D.Wo c)
/-- Head `h`'s window of the local buffers, and of their sources. -/
def headW (w : Bool) (c : Dev nD) (h : Fin 64) (f : S64x2x128x64.Idx → Elt F .f32) : sProp 𝕄 :=
  match w with
  | false => (ktW h).view.loc (c : Thread nD τ) ↦[(ktW h).view.set]{fullShare} f
  | true => (vtW h).view.loc (c : Thread nD τ) ↦[(vtW h).view.set]{fullShare} f
def srcW (w : Bool) (c : Dev nD) (h : Fin 64) : sProp 𝕄 :=
  match w with
  | false => (kW h c).view.loc (c : Thread nD τ) ↦[(kW h c).view.set]{fullShare} D.K c
  | true => (vW h c).view.loc (c : Thread nD τ) ↦[(vW h c).view.set]{fullShare} D.V c
def heldArg (w : Bool) : Dev nD → S32x128x64x64.Idx → Elt F .f32 :=
  match w with
  | false => D.K
  | true => D.V

instance slotQ_storable (c : Dev nD) (s q f) : BI.Storable (upEmb : UEmb _ 𝕄) (slotQ (F := F) c s q f) := by unfold slotQ; infer_instance
instance slotO_storable (c : Dev nD) (s q f) : BI.Storable (upEmb : UEmb _ 𝕄) (slotO (F := F) c s q f) := by unfold slotO; infer_instance
instance fullQ_storable (c : Dev nD) (s q) : BI.Storable (upEmb : UEmb _ 𝕄) (fullQ D c s q) := by unfold fullQ; infer_instance
instance fullO_storable (c : Dev nD) (s q) : BI.Storable (upEmb : UEmb _ 𝕄) (fullO D c s q) := by unfold fullO; infer_instance
instance headW_storable (w : Bool) (c : Dev nD) (h f) : BI.Storable (upEmb : UEmb _ 𝕄) (headW (F := F) w c h f) := by
  cases w <;> (unfold headW; infer_instance)
instance srcW_storable (w : Bool) (c : Dev nD) (h) : BI.Storable (upEmb : UEmb _ 𝕄) (srcW D w c h) := by
  cases w <;> (unfold srcW; infer_instance)

/-! ## The schedule -/

/-- The share of the source slot a lane reads at: the two lanes that read slot 0 read it together. -/
def shr (i : Lane) : PosShare TreeShare := if i = 8 then fullShare.right.left else fullShare.left

def ring2 (w : Bool) (c : Dev nD) (s : Fin 16) (q : PosShare TreeShare) : sProp 𝕄 :=
  match w with
  | false => fullQ D c s q
  | true => fullO D c s q
instance ring2_storable (w : Bool) (c : Dev nD) (s q) : BI.Storable (upEmb : UEmb _ 𝕄) (ring2 D w c s q) := by
  cases w <;> (unfold ring2; infer_instance)

/-- What lane `i` needs of the device `c` it fills: the two slots, and that its receive cells are at their round. -/
def land (i : Lane) (c : Dev nD) : sProp 𝕄 :=
  iprop((∃ f, slotQ c (dstS i) fullShare f) ∗ (∃ f, slotO c (dstS i) fullShare f)
    ∗ reached ER (cellAt c (rcv false i)) 0 ∗ reached ER (cellAt c (rcv true i)) 0)
instance land_storable (i : Lane) (c : Dev nD) : BI.Storable (upEmb : UEmb _ 𝕄) (land (F := F) i c) := by unfold land; infer_instance

/-- The lanes of a direction. -/
def dir (d : Fin 64) : List Lane := if d = 0 then [0, 1, 2, 3, 4, 5, 6, 7] else [8, 9, 10, 11, 12, 13, 14]

/-- The separating conjunction over a list. -/
def listSep {A : Type} (f : A → sProp 𝕄) : List A → sProp 𝕄
  | [] => iprop(emp)
  | a :: l => iprop(f a ∗ listSep f l)
instance listSep_storable {A : Type} (f : A → sProp 𝕄) [h : ∀ a, BI.Storable (upEmb : UEmb _ 𝕄) (f a)] (l : List A) :
    BI.Storable (upEmb : UEmb _ 𝕄) (listSep f l) := by
  induction l with
  | nil => unfold listSep; infer_instance
  | cons a l ih => unfold listSep; infer_instance

/-- What the two neighbours' signals hand device `c`: the first what its clockwise lanes fill, the second what its
    counter-clockwise lanes fill. -/
def barPay (c : Dev nD) (d : Fin 64) : sProp 𝕄 := listSep (fun i => land i (toD c i)) (dir d)
instance barPay_storable (c : Dev nD) (d) : BI.Storable (upEmb : UEmb _ 𝕄) (barPay (F := F) c d) := by unfold barPay; infer_instance

def pay (c : Dev nD) (d : Fin 64) : CI → sProp 𝕄
  | .inl (w, i) => ring2 D w c (srcS i) (shr i)
  | .inr (.inl (w, i)) => ring2 D w c (dstS i) fullShare
  | .inr (.inr w) => iprop(headW w c d (headsK (heldArg D w c) c) ∗ srcW D w c d)
instance pay_storable (c : Dev nD) (d) (k : CI) : BI.Storable (upEmb : UEmb _ 𝕄) (pay D c d k) := by
  rcases k with ⟨w, i⟩ | ⟨w, i⟩ | w <;> (unfold pay; infer_instance)

def dut : CI → Finset (Fin 64)
  | .inl _ => {0}
  | .inr (.inl _) => {0}
  | .inr (.inr _) => Finset.univ
def amt : CI → ℕ
  | .inl (w, _) => NR w
  | .inr (.inl (w, _)) => NR w
  | .inr (.inr w) => NL w

def Rd : Rounds.Schedule (GSem nD τ sig) (Fin 64) 𝕄 where
  duties g r := if r = 0 ∧ g.1.2 = .tc then (match owner g.2 with | some k => dut k | none => if g.2 = .reg barS then {0, 1} else ∅) else ∅
  unitless _ := False
  amount g _ _ := match owner g.2 with | some k => amt k | none => 1
  payload g _ d := match owner g.2 with | some k => pay D g.1.1 d k | none => barPay g.1.1 d
  amount_pos g _ _ _ := by
    cases owner g.2 with
    | none => exact Nat.one_pos
    | some k => rcases k with ⟨w, i⟩ | ⟨w, i⟩ | w <;> first | exact NR_pos _ | exact NL_pos _

instance Rd_payload_storable (g : GSem nD τ sig) (r : ℕ) (d : Fin 64) : BI.Storable (upEmb : UEmb _ 𝕄) ((Rd D).payload g r d) := by
  show BI.Storable upEmb (match owner g.2 with | some k => pay D g.1.1 d k | none => barPay g.1.1 d)
  split <;> infer_instance

section Sched
variable (c : Dev nD) (k : CI)

theorem duties_cell : (Rd D).duties (cellAt c k) 0 = dut k := by
  dsimp only [Rd]; rw [if_pos ⟨rfl, rfl⟩, owner_osem]
theorem duties_bar : (Rd D).duties (barCell c) 0 = {0, 1} := by
  dsimp only [Rd]; rw [if_pos ⟨rfl, rfl⟩, owner_reg]; exact if_pos rfl
theorem duties_later (g : GSem nD τ sig) : ∀ r, 1 ≤ r → (Rd D).duties g r = ∅ :=
  fun r hr => by dsimp only [Rd]; exact if_neg fun h => by omega
theorem amount_cell (d : Fin 64) : (Rd D).amount (cellAt c k) 0 d = amt k := by
  dsimp only [Rd]; rw [owner_osem]
theorem amount_bar (d : Fin 64) : (Rd D).amount (barCell c) 0 d = 1 := by
  dsimp only [Rd]; rw [owner_reg]
theorem payload_cell (d : Fin 64) : (Rd D).payload (cellAt c k) 0 d = pay D c d k := by
  dsimp only [Rd]; rw [owner_osem]
theorem payload_bar (d : Fin 64) : (Rd D).payload (barCell c) 0 d = barPay c d := by
  dsimp only [Rd]; rw [owner_reg]
theorem expect_cell : (Rd D).expect (cellAt c k) 0 = (dut k).card * amt k := by
  unfold Schedule.expect Schedule.amountOf
  rw [duties_cell, Finset.sum_congr rfl fun d _ => amount_cell D c k d, Finset.sum_const, smul_eq_mul]
theorem expect_bar : (Rd D).expect (barCell c) 0 = 2 := by
  unfold Schedule.expect Schedule.amountOf
  rw [duties_bar, Finset.sum_congr rfl fun d _ => amount_bar D c d, Finset.sum_const]; rfl

end Sched

/-! ## What each device owes at launch, and the levels -/

/-- The order the lanes are sent in. -/
def order : List Lane := [0, 8, 1, 9, 2, 10, 3, 11, 4, 12, 5, 13, 6, 14, 7]

abbrev recvT (c : Dev nD) (w : Bool) (i : Lane) : CellTallies nD τ sig Unit := tallyAt (cellAt (toD c i) (rcv w i)) () (NR w)
/-- What is owed for the lanes still to be sent. -/
def lanesO (c : Dev nD) : List Lane → CellTallies nD τ sig Unit
  | [] => 0
  | i :: l => lanesO c l + recvT c true i + recvT c false i
def O₀ (c : Dev nD) : CellTallies nD τ sig Unit :=
  lanesO c order + tallyAt (barCell (rightB c)) () 1 + tallyAt (barCell (leftB c)) () 1

/-- The hop a lane belongs to. -/
def hopOf (i : Lane) : ℕ := if i.val < 8 then i.val else i.val - 8

def L (g : GSem nD τ sig) : Finset Unit := if g.1.2 = .tc then {()} else ∅
def lv (g : GSem nD τ sig) (_ : Unit) : ℕ :=
  match owner g.2 with
  | some (.inr (.inl (_, i))) => 2 + hopOf i
  | some _ => 0
  | none => if g.2 = .reg barS then 1 else 0
theorem L_of_ne (g : GSem nD τ sig) (h : g.1.2 ≠ .tc) : L g = ∅ := if_neg h
theorem L_tc (c : Dev nD) (sm : SemLoc sig) : L ((c : Thread nD τ), sm) = {()} := if_pos rfl
theorem lv_rcv (c : Dev nD) (w : Bool) (i : Lane) : lv (cellAt c (rcv w i)) () = 2 + hopOf i := by
  unfold lv; rw [owner_osem]
theorem lv_snd (c : Dev nD) (w : Bool) (i : Lane) : lv (cellAt c (snd w i)) () = 0 := by
  unfold lv; rw [owner_osem]
theorem lv_loc (c : Dev nD) (w : Bool) : lv (cellAt c (loc w)) () = 0 := by
  unfold lv; rw [owner_osem]
theorem lv_bar (c : Dev nD) : lv (barCell c) () = 1 := by
  unfold lv; rw [owner_reg]; exact if_pos rfl
theorem lv_other {c : Dev nD} {q : DmaSem sig} (h : ∀ k, osem k ≠ .dma q) : lv ((c : Thread nD τ), .dma q) () = 0 := by
  unfold lv; rw [owner_none h]; exact if_neg fun e => by cases e

theorem pos_add {A : CellTallies nD τ sig Unit} {g g' : GSem nD τ sig} {n : ℕ} {u : Unit} (h : 0 < (A + tallyAt g' () n) g u) :
    g = g' ∨ 0 < A g u := by
  rw [Pi.add_apply, Finsupp.add_apply, tallyAt_apply] at h
  by_cases e : g = g'
  · exact .inl e
  · rw [if_neg (fun h => e h.1)] at h; exact .inr h

theorem lanesO_pos {c : Dev nD} {l : List Lane} {g : GSem nD τ sig} {u : Unit} (h : 0 < lanesO c l g u) :
    ∃ i ∈ l, ∃ w, g = cellAt (toD c i) (rcv w i) := by
  induction l with
  | nil => exact absurd h (Nat.lt_irrefl 0)
  | cons i l ih =>
    unfold lanesO at h
    rcases pos_add h with h1 | h
    · exact ⟨i, List.mem_cons_self, false, h1⟩
    rcases pos_add h with h2 | h
    · exact ⟨i, List.mem_cons_self, true, h2⟩
    obtain ⟨j, hj, w, hw⟩ := ih h
    exact ⟨j, List.mem_cons_of_mem _ hj, w, hw⟩

theorem O₀_pos {c : Dev nD} {g : GSem nD τ sig} {u : Unit} (h : 0 < O₀ c g u) :
    (∃ i, ∃ w, g = cellAt (toD c i) (rcv w i)) ∨ ∃ d, g = barCell d := by
  unfold O₀ at h
  rcases pos_add h with h1 | h
  · exact .inr ⟨_, h1⟩
  rcases pos_add h with h2 | h
  · exact .inr ⟨_, h2⟩
  obtain ⟨i, -, w, hw⟩ := lanesO_pos h
  exact .inl ⟨i, w, hw⟩

/-- A cell may be waited on while only cells of higher levels are owed. -/
theorem mayWait_of (c : Dev nD) (sm : SemLoc sig) (O : CellTallies nD τ sig Unit) (n : ℕ) (hs : lv ((c : Thread nD τ), sm) () ≤ n)
    (hO : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

/-- While lanes of later hops are owed. -/
theorem mayWait_lanes (c : Dev nD) (sm : SemLoc sig) (l : List Lane) (n : ℕ) (hs : lv ((c : Thread nD τ), sm) () ≤ n)
    (hl : ∀ i ∈ l, n < 2 + hopOf i) : (levAts L lv : sProp 𝕄) ⊢ MayWait (c : Thread nD τ) sm () (lanesO c l) :=
  mayWait_of c sm _ n hs fun g u hg => by
    obtain ⟨i, hi, w, rfl⟩ := lanesO_pos hg
    exact ⟨rfl, by rw [lv_rcv]; exact hl i hi⟩

/-- A staging semaphore, at launch or once nothing is owed. -/
theorem mayWait_stage (c : Dev nD) (q : DmaSem sig) (hq : ∀ k, osem k ≠ .dma q) (O : CellTallies nD τ sig Unit) (hO : O = O₀ c ∨ O = 0) :
    (levAts L lv : sProp 𝕄) ⊢ MayWait (c : Thread nD τ) (.dma q) () O := by
  rcases hO with rfl | rfl
  · refine mayWait_of c _ _ 0 (by rw [lv_other hq]) fun g u hg => ?_
    rcases O₀_pos hg with ⟨i, w, rfl⟩ | ⟨d, rfl⟩
    · exact ⟨rfl, by rw [lv_rcv]; omega⟩
    · exact ⟨rfl, by rw [lv_bar]; omega⟩
  · rw [MayWait_zero]; iintro -; iempintro

end Cert.KernelIdeal.Attn

end
-- ==== Proof.KernelIdeal.Lanes.lean ====
/-
# A lane sent, a lane awaited

The rules for one lane of the ring: sending it gives up a share of its source slot and pays its receive duty; awaiting it
gives the source share back and hands over the slot that has landed here.
-/
module

public import proofs.«01_k».proof.Proof.KernelIdeal.Protocol

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F)

/-! ## The cells' records -/

/-- A device's cells: the barrier's and its own. -/
abbrev CB : Type := Unit ⊕ CI
def sloc : CB → SemLoc sig
  | .inl _ => .reg barS
  | .inr k => osem k
abbrev kcell (ck : Dev nD × CB) : GSem nD τ sig := ((ck.1 : Thread nD τ), sloc ck.2)

variable (K : Dev nD × CB → ℕ)

/-- Every cell's invariant, and that every cell is at its round. -/
def Recs : sProp 𝕄 :=
  iprop((bigSep Finset.univ fun ck : Dev nD × CB => cellInv ER (Rd D) (K ck) (kcell ck))
    ∗ bigSep Finset.univ fun ck : Dev nD × CB => reached ER (kcell ck) 0)
instance Recs_persistent : BI.Persistent (Recs D K) := by unfold Recs; infer_instance

theorem recs_cell (c : Dev nD) (k : CI) : Recs D K ⊢ cellInv ER (Rd D) (K (c, .inr k)) (cellAt c k) := by
  unfold Recs
  iintro ⟨#HI, #HR⟩
  iapply (show _ ⊢ _ from bigSep_elim (Φ := fun ck : Dev nD × CB => (cellInv ER (Rd D) (K ck) (kcell ck) : sProp 𝕄)) (Finset.mem_univ (c, Sum.inr k)))
  iexact HI
theorem recs_bar (c : Dev nD) : Recs D K ⊢ cellInv ER (Rd D) (K (c, .inl ())) (barCell c) := by
  unfold Recs
  iintro ⟨#HI, #HR⟩
  iapply (show _ ⊢ _ from bigSep_elim (Φ := fun ck : Dev nD × CB => (cellInv ER (Rd D) (K ck) (kcell ck) : sProp 𝕄)) (Finset.mem_univ (c, Sum.inl ())))
  iexact HI
theorem recs_reached (c : Dev nD) (k : CI) : Recs D K ⊢ reached ER (cellAt c k) 0 := by
  unfold Recs
  iintro ⟨#HI, #HR⟩
  iapply (show _ ⊢ _ from bigSep_elim (Φ := fun ck : Dev nD × CB => (reached ER (kcell ck) 0 : sProp 𝕄)) (Finset.mem_univ (c, Sum.inr k)))
  iexact HR
theorem recs_reached_bar (c : Dev nD) : Recs D K ⊢ reached ER (barCell c) 0 := by
  unfold Recs
  iintro ⟨#HI, #HR⟩
  iapply (show _ ⊢ _ from bigSep_elim (Φ := fun ck : Dev nD × CB => (reached ER (kcell ck) 0 : sProp 𝕄)) (Finset.mem_univ (c, Sum.inl ())))
  iexact HR

/-- The weakest precondition of a program of device `c`. -/
abbrev WP (c : Dev nD) (p : PF F) (Q : PUnit → sProp 𝕄) : sProp 𝕄 := wp frame (wpE (defs₀ (F := F)) 𝒱₀ (c : Thread nD τ) none) Set.univ p Q

/-- What a device owes, having waited on anything. -/
def ow (c : Dev nD) (O : CellTallies nD τ sig Unit) : sProp 𝕄 := iprop(∃ W, owes (c : Thread nD τ) O W)

theorem mem_duty (c : Dev nD) (k : CI) (h : dut k = {0}) : (0 : Fin 64) ∈ (Rd D).duties (cellAt c k) 0 := by
  rw [duties_cell, h]; exact Finset.mem_singleton_self _

theorem credit_wq (s : Fin 16) (q : DmaSem sig) : (wqSlot s).view.amount (.dma q) = NR false := rfl

theorem landed_wq (c : Dev nD) (i : Lane) (f : (cc0_scratch0 : Ref sig .tc).ty.Contents (Elt F)) :
    ((wqSlot (dstS i)).view.loc (toD c i : Thread nD τ) ↦[(wqSlot (dstS i)).view.set]{fullShare}
        ((wqSlot (dstS i)).view.write (Elt F) f ((wqSlot (srcS i)).view.read (Elt F) (ringQ D.Wq c)) Finset.univ) : sProp 𝕄)
      = fullQ D (toD c i) (dstS i) fullShare :=
  pointsTo_congr (write_agree _ _ _ _ (lane_Q D.Wq c i))

theorem wp_sendQ (c : Dev nD) (i : Lane) (O : CellTallies nD τ sig Unit) (k : PF F) (Q : PUnit → sProp 𝕄) :
    iprop(Recs D K ∗ fullQ D c (srcS i) (shr i) ∗ (∃ f, slotQ (toD c i) (dstS i) fullShare f) ∗ ow c (O + recvT c false i)
        ∗ dutyTok ER (cellAt c (snd false i)) 0 0 ∗ dutyTok ER (cellAt (toD c i) (rcv false i)) 0 0)
      ⊢ iprop(((cred (tallyAt (cellAt c (snd false i)) () (NR false)) ∗ ow c O) -∗ WP c k Q) -∗ WP c (sendWq (srcS i) (dstS i) (sS false i) (rS false i) (toD c i) k) Q) := by
  unfold ow fullQ slotQ
  iintro ⟨#HR, Hs, ⟨%f, Hd⟩, ⟨%W, HO⟩, Ht1, Ht2⟩ Hk
  have hst := Rounds.wp_send_pointsTo (defs := defs₀ (F := F)) (Γ := .empty) 𝒱₀ ER (Rd D) (c : Thread nD τ) none
    (κ₁ := K (c, .inr (snd false i))) (κ₂ := K (toD c i, .inr (rcv false i)))
    (src := wqSlot (srcS i)) (dst := wqSlot (dstS i)) (sS := .dma (sS false i)) (sem := .dma (rS false i)) (c' := (toD c i : Thread nD τ)) (k := fun _ => k) (Q := Q)
    (hsrc := (View.wordExact_bits rfl).reshape _ _) (hdst := (View.wordExact_bits rfl).reshape _ _) (hsem := ⟨⟨rfl, Or.inl rfl⟩, trivial⟩) (hsc := rfl) (Es := Set.univ)
    (r₁ := 0) (r₂ := 0) (d₁ := 0) (d₂ := 0) (fd := f) (fs := ringQ D.Wq c) (q := shr i)
    (mem_duty D c (snd false i) rfl)
    (mem_duty D (toD c i) (rcv false i) rfl)
    () () (NR false) (credit_wq _ _) (amount_cell D c (snd false i) 0) (amount_cell D (toD c i) (rcv false i) 0) O rfl (W := W)
    (Entails.of_eq (payload_cell D c (snd false i) 0).symm)
    ((Entails.of_eq (landed_wq D c i f)).trans (Entails.of_eq (payload_cell D (toD c i) (rcv false i) 0).symm))
  iapply hst $$ [Hs Hd HO Ht1 Ht2]
  · isplitr; · iapply (recs_cell D K c (snd false i)); iexact HR
    isplitr; · iapply (recs_cell D K (toD c i) (rcv false i)); iexact HR
    isplitl [Hs]; · iexact Hs
    isplitl [Hd]; · iexact Hd
    isplitl [HO]; · iexact HO
    isplitl [Ht1]; · iexact Ht1
    isplitr; · iapply (recs_reached D K c (snd false i)); iexact HR
    isplitl [Ht2]; · iexact Ht2
    iapply (recs_reached D K (toD c i) (rcv false i)); iexact HR
  iintro ⟨Hc, HO⟩
  iapply Hk
  isplitl [Hc]; · iexact Hc
  iexists W; iexact HO

theorem credit_wo (s : Fin 16) (q : DmaSem sig) : (woSlot s).view.amount (.dma q) = NR true := rfl

theorem landed_wo (c : Dev nD) (i : Lane) (f : (cc0_scratch1 : Ref sig .tc).ty.Contents (Elt F)) :
    ((woSlot (dstS i)).view.loc (toD c i : Thread nD τ) ↦[(woSlot (dstS i)).view.set]{fullShare}
        ((woSlot (dstS i)).view.write (Elt F) f ((woSlot (srcS i)).view.read (Elt F) (ringO D.Wo c)) Finset.univ) : sProp 𝕄)
      = fullO D (toD c i) (dstS i) fullShare :=
  pointsTo_congr (write_agree _ _ _ _ (lane_O D.Wo c i))

theorem wp_sendO (c : Dev nD) (i : Lane) (O : CellTallies nD τ sig Unit) (k : PF F) (Q : PUnit → sProp 𝕄) :
    iprop(Recs D K ∗ fullO D c (srcS i) (shr i) ∗ (∃ f, slotO (toD c i) (dstS i) fullShare f) ∗ ow c (O + recvT c true i)
        ∗ dutyTok ER (cellAt c (snd true i)) 0 0 ∗ dutyTok ER (cellAt (toD c i) (rcv true i)) 0 0)
      ⊢ iprop(((cred (tallyAt (cellAt c (snd true i)) () (NR true)) ∗ ow c O) -∗ WP c k Q) -∗ WP c (sendWo (srcS i) (dstS i) (sS true i) (rS true i) (toD c i) k) Q) := by
  unfold ow fullO slotO
  iintro ⟨#HR, Hs, ⟨%f, Hd⟩, ⟨%W, HO⟩, Ht1, Ht2⟩ Hk
  have hst := Rounds.wp_send_pointsTo (defs := defs₀ (F := F)) (Γ := .empty) 𝒱₀ ER (Rd D) (c : Thread nD τ) none
    (κ₁ := K (c, .inr (snd true i))) (κ₂ := K (toD c i, .inr (rcv true i)))
    (src := woSlot (srcS i)) (dst := woSlot (dstS i)) (sS := .dma (sS true i)) (sem := .dma (rS true i)) (c' := (toD c i : Thread nD τ)) (k := fun _ => k) (Q := Q)
    (hsrc := (View.wordExact_bits rfl).reshape _ _) (hdst := (View.wordExact_bits rfl).reshape _ _) (hsem := ⟨⟨rfl, Or.inl rfl⟩, trivial⟩) (hsc := rfl) (Es := Set.univ)
    (r₁ := 0) (r₂ := 0) (d₁ := 0) (d₂ := 0) (fd := f) (fs := ringO D.Wo c) (q := shr i)
    (mem_duty D c (snd true i) rfl)
    (mem_duty D (toD c i) (rcv true i) rfl)
    () () (NR true) (credit_wo _ _) (amount_cell D c (snd true i) 0) (amount_cell D (toD c i) (rcv true i) 0) O rfl (W := W)
    (Entails.of_eq (payload_cell D c (snd true i) 0).symm)
    ((Entails.of_eq (landed_wo D c i f)).trans (Entails.of_eq (payload_cell D (toD c i) (rcv true i) 0).symm))
  iapply hst $$ [Hs Hd HO Ht1 Ht2]
  · isplitr; · iapply (recs_cell D K c (snd true i)); iexact HR
    isplitr; · iapply (recs_cell D K (toD c i) (rcv true i)); iexact HR
    isplitl [Hs]; · iexact Hs
    isplitl [Hd]; · iexact Hd
    isplitl [HO]; · iexact HO
    isplitl [Ht1]; · iexact Ht1
    isplitr; · iapply (recs_reached D K c (snd true i)); iexact HR
    isplitl [Ht2]; · iexact Ht2
    iapply (recs_reached D K (toD c i) (rcv true i)); iexact HR
  iintro ⟨Hc, HO⟩
  iapply Hk
  isplitl [Hc]; · iexact Hc
  iexists W; iexact HO

/-- Awaiting a one-duty cell: its payload, and its counter at zero for good. -/
theorem wp_await (c : Dev nD) (kk : CI) (l : List Lane) (n : ℕ) (hd : dut kk = {0}) (hlv : lv (cellAt c kk) () ≤ n) (hl : ∀ j ∈ l, n < 2 + hopOf j)
    {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (osem kk) (amt kk) P)
    (k : PF F) (Q : PUnit → sProp 𝕄) :
    iprop(Recs D K ∗ levAts L lv ∗ cred (tallyAt (cellAt c kk) () (amt kk)) ∗ ow c (lanesO c l) ∗ atPos ER (cellAt c kk) 0 ∅ 0)
      ⊢ iprop(((ow c (lanesO c l) ∗ pay D c 0 kk ∗ semVal (cellAt c kk) 0) -∗ WP c k Q) -∗ WP c (.op w fun _ => k) Q) := by
  unfold ow
  iintro ⟨#HR, #HL, Hc, ⟨%W, HO⟩, Hat⟩ Hk
  iapply (Rounds.wp_wait_rest_token 𝒱₀ ER (Rd D) (c : Thread nD τ) none (κ := K (c, .inr kk)) (sm := osem kk) (k' := amt kk)
      hw (Set.mem_univ _) () (O := lanesO c l) (W := W) (R := 0) (m := 0) (T := ∅)
      (by rw [expect_cell, hd, Finset.card_singleton, Nat.one_mul, Nat.zero_add])) $$ [Hc HO Hat]
  · isplitr; · iapply (recs_cell D K c kk); iexact HR
    isplitl [Hc]; · iexact Hc
    isplitl [HO]; · iexact HO
    isplitr; · iapply (mayWait_lanes c (osem kk) l n hlv hl); iexact HL
    iexact Hat
  iintro ⟨HO, Hat, -, Hpay⟩
  ihave Hp := (Entails.of_eq (show bigSep ((Rd D).duties (cellAt c kk) 0 \ ∅) (fun d => (Rd D).payload (cellAt c kk) 0 d) = pay D c 0 kk by
    rw [Finset.sdiff_empty, duties_cell, hd, bigSep_singleton, payload_cell])) $$ Hpay
  imod (Rounds.cell_close ER (Rd D) (Set.mem_univ (K (c, .inr kk))) (fun h => h) (R := 0 + 1) (duties_later D (cellAt c kk))) $$ [Hat] with Hz
  · isplitr; · iapply (recs_cell D K c kk); iexact HR
    iexact Hat
  iapply Hk
  isplitl [HO]; · iexists _; iexact HO
  isplitl [Hp]; · iexact Hp
  iexact Hz

theorem wp_waitQ (c : Dev nD) (kk : CI) (l : List Lane) (n : ℕ) (hd : dut kk = {0}) (hlv : lv (cellAt c kk) () ≤ n) (hl : ∀ j ∈ l, n < 2 + hopOf j)
    (a b : Fin 16) (sm : DmaSem sig) (hs : osem kk = .dma sm) (ha : amt kk = NR false) (k : PF F) (Q : PUnit → sProp 𝕄) :
    iprop(Recs D K ∗ levAts L lv ∗ cred (tallyAt (cellAt c kk) () (NR false)) ∗ ow c (lanesO c l) ∗ atPos ER (cellAt c kk) 0 ∅ 0)
      ⊢ iprop(((ow c (lanesO c l) ∗ pay D c 0 kk ∗ semVal (cellAt c kk) 0) -∗ WP c k Q) -∗ WP c (waitWq a b sm k) Q) := by
  rw [← ha]
  exact wp_await D K c kk l n hd hlv hl
    (w := .waitDma2 sm (wqSlot a) (wqSlot b) ((View.wordExact_bits rfl).reshape _ _) ((View.wordExact_bits rfl).reshape _ _))
    (fun P => by rw [hs, ha]; rfl) k Q
theorem wp_waitO (c : Dev nD) (kk : CI) (l : List Lane) (n : ℕ) (hd : dut kk = {0}) (hlv : lv (cellAt c kk) () ≤ n) (hl : ∀ j ∈ l, n < 2 + hopOf j)
    (a b : Fin 16) (sm : DmaSem sig) (hs : osem kk = .dma sm) (ha : amt kk = NR true) (k : PF F) (Q : PUnit → sProp 𝕄) :
    iprop(Recs D K ∗ levAts L lv ∗ cred (tallyAt (cellAt c kk) () (NR true)) ∗ ow c (lanesO c l) ∗ atPos ER (cellAt c kk) 0 ∅ 0)
      ⊢ iprop(((ow c (lanesO c l) ∗ pay D c 0 kk ∗ semVal (cellAt c kk) 0) -∗ WP c k Q) -∗ WP c (waitWo a b sm k) Q) := by
  rw [← ha]
  exact wp_await D K c kk l n hd hlv hl
    (w := .waitDma2 sm (woSlot a) (woSlot b) ((View.wordExact_bits rfl).reshape _ _) ((View.wordExact_bits rfl).reshape _ _))
    (fun P => by rw [hs, ha]; rfl) k Q

/-! ## A whole lane -/

/-- The tokens a lane pays with. -/
def ltok (c : Dev nD) (i : Lane) : sProp 𝕄 :=
  iprop(dutyTok ER (cellAt c (snd false i)) 0 0 ∗ dutyTok ER (cellAt (toD c i) (rcv false i)) 0 0
    ∗ dutyTok ER (cellAt c (snd true i)) 0 0 ∗ dutyTok ER (cellAt (toD c i) (rcv true i)) 0 0)
/-- The positions at a lane's own cells. -/
def lpos (c : Dev nD) (i : Lane) : sProp 𝕄 :=
  iprop(atPos ER (cellAt c (snd false i)) 0 ∅ 0 ∗ atPos ER (cellAt c (rcv false i)) 0 ∅ 0
    ∗ atPos ER (cellAt c (snd true i)) 0 ∅ 0 ∗ atPos ER (cellAt c (rcv true i)) 0 ∅ 0)
/-- The credit to await what a lane lands here. -/
def lcred (c : Dev nD) (i : Lane) : sProp 𝕄 :=
  iprop(cred (tallyAt (cellAt c (rcv false i)) () (NR false)) ∗ cred (tallyAt (cellAt c (rcv true i)) () (NR true)))
/-- The credit to await a lane that has been sent. -/
def sent (c : Dev nD) (i : Lane) : sProp 𝕄 :=
  iprop(cred (tallyAt (cellAt c (snd false i)) () (NR false)) ∗ cred (tallyAt (cellAt c (snd true i)) () (NR true)))
/-- A lane's own cells, closed. -/
def ldone (c : Dev nD) (i : Lane) : sProp 𝕄 :=
  iprop(semVal (cellAt c (snd false i)) 0 ∗ semVal (cellAt c (rcv false i)) 0
    ∗ semVal (cellAt c (snd true i)) 0 ∗ semVal (cellAt c (rcv true i)) 0)
/-- A slot of both ring buffers, filled. -/
def slot (c : Dev nD) (s : Fin 16) (q : PosShare TreeShare) : sProp 𝕄 := iprop(fullQ D c s q ∗ fullO D c s q)

theorem slot_split (c : Dev nD) (s : Fin 16) (q : PosShare TreeShare) : slot D c s q ⊢ iprop(slot D c s q.left ∗ slot D c s q.right) := by
  unfold slot fullQ fullO slotQ slotO
  iintro ⟨H1, H2⟩
  ihave H1 := (pointsTo_share (PosShare.mem_left_op_right q)).1 $$ H1
  ihave H2 := (pointsTo_share (PosShare.mem_left_op_right q)).1 $$ H2
  icases H1 with ⟨H1a, H1b⟩
  icases H2 with ⟨H2a, H2b⟩
  isplitl [H1a H2a]
  · isplitl [H1a] <;> iassumption
  · isplitl [H1b] <;> iassumption
theorem slot_join (c : Dev nD) (s : Fin 16) (q : PosShare TreeShare) : iprop(slot D c s q.left ∗ slot D c s q.right) ⊢ slot D c s q := by
  unfold slot fullQ fullO slotQ slotO
  iintro ⟨⟨H1a, H2a⟩, H1b, H2b⟩
  isplitl [H1a H1b]
  · iapply (pointsTo_share (PosShare.mem_left_op_right q)).2
    isplitl [H1a] <;> iassumption
  · iapply (pointsTo_share (PosShare.mem_left_op_right q)).2
    isplitl [H2a] <;> iassumption

theorem wp_sendLane (c : Dev nD) (i : Lane) (l : List Lane) (k : PF F) (Q : PUnit → sProp 𝕄) :
    iprop(Recs D K ∗ ltok c i ∗ land i (toD c i) ∗ slot D c (srcS i) (shr i) ∗ ow c (lanesO c (i :: l)))
      ⊢ iprop(((sent c i ∗ ow c (lanesO c l)) -∗ WP c k Q) -∗ WP c (sendLane c i k) Q) := by
  unfold ltok land slot sent
  iintro ⟨#HR, ⟨Ht1, Ht2, Ht3, Ht4⟩, ⟨Hd1, Hd2, -, -⟩, ⟨Hs1, Hs2⟩, HO⟩ Hk
  iapply (wp_sendQ D K c i (lanesO c l + recvT c true i) _ Q) $$ [Ht1 Ht2 Hd1 Hs1 HO]
  · isplitr; · iexact HR
    isplitl [Hs1]; · iexact Hs1
    isplitl [Hd1]; · iexact Hd1
    isplitl [HO]; · iexact HO
    isplitl [Ht1] <;> iassumption
  iintro ⟨Hc1, HO⟩
  iapply (wp_sendO D K c i (lanesO c l) k Q) $$ [Ht3 Ht4 Hd2 Hs2 HO]
  · isplitr; · iexact HR
    isplitl [Hs2]; · iexact Hs2
    isplitl [Hd2]; · iexact Hd2
    isplitl [HO]; · iexact HO
    isplitl [Ht3] <;> iassumption
  iintro ⟨Hc2, HO⟩
  iapply Hk
  isplitl [Hc1 Hc2]
  · isplitl [Hc1] <;> iassumption
  iexact HO

theorem wp_waitLane (c : Dev nD) (i : Lane) (l : List Lane) (hl : ∀ j ∈ l, hopOf i < hopOf j) (k : PF F) (Q : PUnit → sProp 𝕄) :
    iprop(Recs D K ∗ levAts L lv ∗ sent c i ∗ lcred c i ∗ lpos c i ∗ ow c (lanesO c l))
      ⊢ iprop(((slot D c (srcS i) (shr i) ∗ slot D c (dstS i) fullShare ∗ ldone c i ∗ ow c (lanesO c l)) -∗ WP c k Q)
          -∗ WP c (waitLane i k) Q) := by
  unfold sent lcred lpos slot ldone
  iintro ⟨#HR, #HL, ⟨Hc1, Hc2⟩, ⟨Hc3, Hc4⟩, ⟨Ha1, Ha2, Ha3, Ha4⟩, HO⟩ Hk
  have hl' : ∀ j ∈ l, 2 + hopOf i < 2 + hopOf j := fun j hj => Nat.add_lt_add_left (hl j hj) 2
  iapply (wp_waitQ D K c (snd false i) l (2 + hopOf i) rfl (by rw [lv_snd]; exact Nat.zero_le _) hl' _ _ _ rfl rfl _ Q) $$ [Hc1 HO Ha1]
  · isplitr; · iexact HR
    isplitr; · iexact HL
    isplitl [Hc1]; · iexact Hc1
    isplitl [HO] <;> iassumption
  iintro ⟨HO, Hs1, Hz1⟩
  iapply (wp_waitQ D K c (rcv false i) l (2 + hopOf i) rfl (by rw [lv_rcv]) hl' _ _ _ rfl rfl _ Q) $$ [Hc3 HO Ha2]
  · isplitr; · iexact HR
    isplitr; · iexact HL
    isplitl [Hc3]; · iexact Hc3
    isplitl [HO] <;> iassumption
  iintro ⟨HO, Hd1, Hz2⟩
  iapply (wp_waitO D K c (snd true i) l (2 + hopOf i) rfl (by rw [lv_snd]; exact Nat.zero_le _) hl' _ _ _ rfl rfl _ Q) $$ [Hc2 HO Ha3]
  · isplitr; · iexact HR
    isplitr; · iexact HL
    isplitl [Hc2]; · iexact Hc2
    isplitl [HO] <;> iassumption
  iintro ⟨HO, Hs2, Hz3⟩
  iapply (wp_waitO D K c (rcv true i) l (2 + hopOf i) rfl (by rw [lv_rcv]) hl' _ _ _ rfl rfl _ Q) $$ [Hc4 HO Ha4]
  · isplitr; · iexact HR
    isplitr; · iexact HL
    isplitl [Hc4]; · iexact Hc4
    isplitl [HO] <;> iassumption
  iintro ⟨HO, Hd2, Hz4⟩
  ihave Hs1 := (show pay D c 0 (snd false i) ⊢ fullQ D c (srcS i) (shr i) from BI.Entails.refl _) $$ Hs1
  ihave Hs2 := (show pay D c 0 (snd true i) ⊢ fullO D c (srcS i) (shr i) from BI.Entails.refl _) $$ Hs2
  ihave Hd1 := (show pay D c 0 (rcv false i) ⊢ fullQ D c (dstS i) fullShare from BI.Entails.refl _) $$ Hd1
  ihave Hd2 := (show pay D c 0 (rcv true i) ⊢ fullO D c (dstS i) fullShare from BI.Entails.refl _) $$ Hd2
  iapply Hk
  isplitl [Hs1 Hs2]
  · isplitl [Hs1] <;> iassumption
  isplitl [Hd1 Hd2]
  · isplitl [Hd1] <;> iassumption
  isplitl [Hz1 Hz2 Hz3 Hz4]
  · isplitl [Hz1]; · iexact Hz1
    isplitl [Hz2]; · iexact Hz2
    isplitl [Hz3] <;> iassumption
  iexact HO

end Cert.KernelIdeal.Attn

end
-- ==== Proof.KernelIdeal.Compute.lean ====
/-
# One shard's contribution, and the accumulator

The rules for the stretches of the body that only read and write the device's own buffers: computing the contribution of
the shard in one ring slot, storing and adding to the accumulator, and the last store.
-/
module

public import proofs.«01_k».proof.Proof.KernelIdeal.Lanes

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F)

/-! ## What is loaded -/

/-- The query weights in slot `r`, head `hh`'s keys and values for that slot's shard, and its rows of the output weights. -/
def wAt (c : Dev nD) (r : Fin 16) : Vec F S1x512x256 .f32 := wqB.view.readAt (Elt F) (wqR r).toLoadRect (ringQ D.Wq c)
def kAt (c : Dev nD) (r : Fin 16) (hh : Fin 4) : Vec F S1x2x128x64 .f32 :=
  ktB.view.readAt (Elt F) (khdR c r hh).toLoadRect (headsK (D.K c) c)
def vAt (c : Dev nD) (r : Fin 16) (hh : Fin 4) : Vec F S1x2x128x64 .f32 :=
  vtB.view.readAt (Elt F) (khdR c r hh).toLoadRect (headsK (D.V c) c)
def oAt (c : Dev nD) (r : Fin 16) (hh : Fin 4) : Vec F S1x64x512 .f32 :=
  woB.view.readAt (Elt F) (wohR r hh).toLoadRect (ringO D.Wo c)

/-- The contribution of the shard in slot `r`. -/
def shardAt (c : Dev nD) (x : FVec F S256x512 .f32) (r : Fin 16) : FVec F S256x512 .f32 :=
  shardV x maskV (wAt D c r) ![kAt D c r 0, kAt D c r 1, kAt D c r 2, kAt D c r 3] ![vAt D c r 0, vAt D c r 1, vAt D c r 2, vAt D c r 3]
    ![oAt D c r 0, oAt D c r 1, oAt D c r 2, oAt D c r 3]

/-! ## What is held -/

/-- The device's own keys and values, copied head by head. -/
def bufs (c : Dev nD) : sProp 𝕄 :=
  iprop((ktB.view.loc (c : Thread nD τ) ↦[Finset.univ]{fullShare} headsK (D.K c) c)
    ∗ (vtB.view.loc (c : Thread nD τ) ↦[Finset.univ]{fullShare} headsK (D.V c) c))
/-- The accumulator. -/
def accP (c : Dev nD) (a : FVec F S256x512 .f32) : sProp 𝕄 := accB.view.loc (c : Thread nD τ) ↦[Finset.univ]{fullShare} a

theorem sub_wq (r : Fin 16) : wqB.view.setOn (wqR r).toLoadRect.set ⊆ (wqSlot r).view.set := by
  rw [set_wqSlot]
  intro x hx
  obtain ⟨y, hy, rfl⟩ := Finset.mem_map.mp hx
  exact hy
theorem sub_wo (r : Fin 16) (hh : Fin 4) : woB.view.setOn (wohR r hh).toLoadRect.set ⊆ (woSlot r).view.set := by
  rw [set_woSlot]
  intro x hx
  obtain ⟨y, hy, rfl⟩ := Finset.mem_map.mp hx
  exact wohR_subset r hh hy

theorem wp_head (c : Dev nD) (r : Fin 16) (hh : Fin 4) (q : PosShare TreeShare)
    (k : Vec F S1x2x128x64 .f32 → Vec F S1x2x128x64 .f32 → Vec F S1x64x512 .f32 → PF F) (Q : PUnit → sProp 𝕄) :
    iprop(bufs D c ∗ fullO D c r q)
      ⊢ iprop(((bufs D c ∗ fullO D c r q) -∗ WP c (k (kAt D c r hh) (vAt D c r hh) (oAt D c r hh)) Q) -∗ WP c (loadHead c r hh k) Q) := by
  unfold bufs fullO slotO
  iintro ⟨⟨Hk, Hv⟩, Ho⟩ Hc
  iapply (wp_load 𝒱₀ (c : Thread nD τ) none Set.univ (m := ktB) (Finset.subset_univ _)) $$ Hk
  iintro Hk
  iapply (wp_load 𝒱₀ (c : Thread nD τ) none Set.univ (m := vtB) (Finset.subset_univ _)) $$ Hv
  iintro Hv
  iapply (wp_load 𝒱₀ (c : Thread nD τ) none Set.univ (m := woB) (S := (woSlot r).view.set) (sub_wo r hh)) $$ Ho
  iintro Ho
  iapply Hc
  isplitl [Hk Hv]
  · isplitl [Hk] <;> iassumption
  iexact Ho

theorem wp_shard (c : Dev nD) (x : FVec F S256x512 .f32) (r : Fin 16) (q : PosShare TreeShare) (k : FVec F S256x512 .f32 → PF F)
    (Q : PUnit → sProp 𝕄) :
    iprop(bufs D c ∗ slot D c r q) ⊢ iprop(((bufs D c ∗ slot D c r q) -∗ WP c (k (shardAt D c x r)) Q) -∗ WP c (shard c x r k) Q) := by
  unfold slot fullQ slotQ
  iintro ⟨Hb, Hw, Ho⟩ Hc
  iapply (wp_load 𝒱₀ (c : Thread nD τ) none Set.univ (m := wqB) (S := (wqSlot r).view.set) (sub_wq r)) $$ Hw
  iintro Hw
  iapply (wp_head D c r 0 q _ Q) $$ [Hb Ho]
  · isplitl [Hb] <;> iassumption
  iintro ⟨Hb, Ho⟩
  iapply (wp_head D c r 1 q _ Q) $$ [Hb Ho]
  · isplitl [Hb] <;> iassumption
  iintro ⟨Hb, Ho⟩
  iapply (wp_head D c r 2 q _ Q) $$ [Hb Ho]
  · isplitl [Hb] <;> iassumption
  iintro ⟨Hb, Ho⟩
  iapply (wp_head D c r 3 q _ Q) $$ [Hb Ho]
  · isplitl [Hb] <;> iassumption
  iintro ⟨Hb, Ho⟩
  iapply Hc
  isplitl [Hb]; · iexact Hb
  isplitl [Hw] <;> iassumption

/-! ## The accumulator -/

theorem off_acc : (![0, 0] : Fin 2 → Nat) = fun _ => 0 := by funext a; fin_cases a <;> rfl

theorem wp_storeAcc (c : Dev nD) (a v : FVec F S256x512 .f32) (k : PF F) (Q : PUnit → sProp 𝕄) :
    accP c a ⊢ iprop((accP c (castV v) -∗ WP c k Q) -∗ WP c (storeAcc v k) Q) := by
  unfold accP
  iintro Ha Hc
  iapply (wp_load 𝒱₀ (c : Thread nD τ) none Set.univ (m := accB) (Finset.subset_univ _)) $$ Ha
  iintro Ha
  iapply (wp_store 𝒱₀ (c : Thread nD τ) none Set.univ (m := accB) (r := accR) (Mk := Finset.univ) (Finset.subset_univ _)) $$ Ha
  rw [show (accB.access accR : View sig .tc _ _ _).write (Elt F) a (castV v) Finset.univ = castV v from
    Memref.write_access_unit_zero_univ (Elt F) cc0_scratch4 off_acc _ a (castV v)]
  iintro Ha
  iapply Hc
  iexact Ha

theorem wp_loadAcc (c : Dev nD) (a : FVec F S256x512 .f32) (k : Vec F S256x512 .f32 → PF F) (Q : PUnit → sProp 𝕄) :
    accP c a ⊢ iprop((accP c a -∗ WP c (k a) Q) -∗ WP c (loadAcc k) Q) := by
  unfold accP
  iintro Ha Hc
  iapply (wp_load 𝒱₀ (c : Thread nD τ) none Set.univ (m := accB) (Finset.subset_univ _)) $$ Ha
  rw [show accB.view.readAt (Elt F) accR.toLoadRect a = a from Memref.readAt_unit_zero (Elt F) cc0_scratch4 off_acc _ a]
  iintro Ha
  iapply Hc
  iexact Ha

/-- Setting the accumulator to a shard's contribution. -/
theorem wp_setShard (c : Dev nD) (x : FVec F S256x512 .f32) (r : Fin 16) (q : PosShare TreeShare) (a : FVec F S256x512 .f32)
    (k : PF F) (Q : PUnit → sProp 𝕄) :
    iprop(bufs D c ∗ slot D c r q ∗ accP c a)
      ⊢ iprop(((bufs D c ∗ slot D c r q ∗ accP c (castV (shardAt D c x r))) -∗ WP c k Q) -∗ WP c (setShard c x r k) Q) := by
  iintro ⟨Hb, Hs, Ha⟩ Hc
  iapply (wp_shard D c x r q _ Q) $$ [Hb Hs]
  · isplitl [Hb] <;> iassumption
  iintro ⟨Hb, Hs⟩
  iapply (wp_storeAcc c a _ _ Q) $$ Ha
  iintro Ha
  iapply Hc
  isplitl [Hb]; · iexact Hb
  isplitl [Hs] <;> iassumption

/-- Adding a shard's contribution to it. -/
theorem wp_addShard (c : Dev nD) (x : FVec F S256x512 .f32) (r : Fin 16) (q : PosShare TreeShare) (a : FVec F S256x512 .f32)
    (k : PF F) (Q : PUnit → sProp 𝕄) :
    iprop(bufs D c ∗ slot D c r q ∗ accP c a)
      ⊢ iprop(((bufs D c ∗ slot D c r q ∗ accP c (castV (addf a (shardAt D c x r)))) -∗ WP c k Q) -∗ WP c (addShard c x r k) Q) := by
  iintro ⟨Hb, Hs, Ha⟩ Hc
  iapply (wp_loadAcc c a _ Q) $$ Ha
  iintro Ha
  iapply (wp_shard D c x r q _ Q) $$ [Hb Hs]
  · isplitl [Hb] <;> iassumption
  iintro ⟨Hb, Hs⟩
  iapply (wp_storeAcc c a _ _ Q) $$ Ha
  iintro Ha
  iapply Hc
  isplitl [Hb]; · iexact Hb
  isplitl [Hs] <;> iassumption

/-! ## The last store -/

/-- The device's result block. -/
def outP (c : Dev nD) (f : (cc0_stg3_0 : Ref sig .tc).ty.Contents (Elt F)) : sProp 𝕄 :=
  outM.view.loc (c : Thread nD τ) ↦[Finset.univ]{fullShare} f

theorem off_out : (![0, 0, 0] : Fin 3 → Nat) = fun _ => 0 := by funext a; fin_cases a <;> rfl

theorem wp_finish (c : Dev nD) (a : FVec F S256x512 .f32) (f : (cc0_stg3_0 : Ref sig .tc).ty.Contents (Elt F)) (k : PF F)
    (Q : PUnit → sProp 𝕄) :
    iprop(accP c a ∗ outP c f) ⊢ iprop(((accP c a ∗ outP c (k0_pay178 a)) -∗ WP c k Q) -∗ WP c (finish k) Q) := by
  unfold outP
  iintro ⟨Ha, Ho⟩ Hc
  iapply (wp_loadAcc c a _ Q) $$ Ha
  iintro Ha
  iapply (wp_load 𝒱₀ (c : Thread nD τ) none Set.univ (m := outM) (Finset.subset_univ _)) $$ Ho
  iintro Ho
  iapply (wp_store 𝒱₀ (c : Thread nD τ) none Set.univ (m := outM)
    (r := Rect.unit (s := S2x128x512) ![0, 0, 0] S2x128x512.size inb_S2x128x512_S2x128x512_0_0_0) (Mk := Finset.univ) (Finset.subset_univ _)) $$ Ho
  rw [show (outM.access (Rect.unit (s := S2x128x512) ![0, 0, 0] S2x128x512.size inb_S2x128x512_S2x128x512_0_0_0) : View sig .tc _ _ _).write
      (Elt F) f (k0_pay178 a) Finset.univ = k0_pay178 a from
    Memref.write_access_unit_zero_univ (Elt F) cc0_stg3_0 off_out _ f (k0_pay178 a)]
  iintro Ho
  iapply Hc
  isplitl [Ha] <;> iassumption

end Cert.KernelIdeal.Attn

end
-- ==== Proof.KernelIdeal.Ring.lean ====
/-
# The hops of the ring

What a device holds before each hop, and the rule that takes it over one hop: two lanes sent, the two shards that arrived
last added to the accumulator, two lanes awaited.
-/
module

public import proofs.«01_k».proof.Proof.KernelIdeal.Compute

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F) (K : Dev nD × CB → ℕ)

/-! ## Loops -/

/-- A loop over a list, by what holds before its `i`-th turn. -/
theorem wp_each {A : Type} (c : Dev nD) (P : sProp 𝕄) [BI.Persistent P] (f : A → PF F → PF F) (Q : PUnit → sProp 𝕄) :
    ∀ (l : List A) (S : ℕ → sProp 𝕄) (k : PF F),
      (∀ (i : ℕ) (hi : i < l.length) (k : PF F), iprop(P ∗ S i) ⊢ iprop((S (i + 1) -∗ WP c k Q) -∗ WP c (f (l[i]'hi) k) Q)) →
      iprop(P ∗ S 0) ⊢ iprop((S l.length -∗ WP c k Q) -∗ WP c (each f l k) Q)
  | [], S, k, _ => by
    unfold each
    iintro ⟨#HP, HS⟩ Hk
    iapply Hk; iexact HS
  | a :: l, S, k, hf => by
    unfold each
    iintro ⟨#HP, HS⟩ Hk
    iapply (hf 0 (Nat.succ_pos _) (each f l k)) $$ [HS]
    · isplitr; · iexact HP
      iexact HS
    iintro HS
    iapply (wp_each c P f Q l (fun i => S (i + 1)) k (fun i hi k => hf (i + 1) (Nat.succ_lt_succ hi) k)) $$ [HS]
    · isplitr; · iexact HP
      iexact HS
    iexact Hk

theorem listSep_cons {A : Type} (f : A → sProp 𝕄) (a : A) (l : List A) : listSep f (a :: l) = iprop(f a ∗ listSep f l) := rfl

/-! ## Before hop `n` -/

/-- What a lane still to be sent and awaited needs. -/
def todo (c : Dev nD) (i : Lane) : sProp 𝕄 := iprop(ltok c i ∗ land i (toD c i) ∗ lcred c i ∗ lpos c i)

/-- The slots `n` places ahead of and behind the device's own. -/
def posS (n : ℕ) : Fin 16 := ⟨n % 16, Nat.mod_lt _ (by decide)⟩
def negS (n : ℕ) : Fin 16 := ⟨(16 - n) % 16, Nat.mod_lt _ (by decide)⟩

/-- The accumulator after hop `n`. -/
def accN (c : Dev nD) (x : FVec F S256x512 .f32) : ℕ → FVec F S256x512 .f32
  | 0 => castV (shardAt D c x 0)
  | n + 1 => castV (addf (castV (addf (accN c x n) (shardAt D c x (posS (n + 1))))) (shardAt D c x (negS (n + 1))))

/-- The lanes sent and awaited before hop `n`, latest first, and the slots no lane will read again. -/
def doneL (n : ℕ) : List Lane := (order.take (2 * n)).reverse
def heldL (n : ℕ) : List (Fin 16) := (((0 : Fin 16) :: order.map dstS).take (2 * n - 1)).reverse

theorem order_step : ∀ h : Fin 7, order.drop (2 * h.val) = cwI h.castSucc :: ccwI h :: order.drop (2 * (h.val + 1)) := by decide
theorem done_step : ∀ h : Fin 7, doneL (h.val + 1) = ccwI h :: cwI h.castSucc :: doneL h.val := by decide
theorem held_step : ∀ h : Fin 7, 1 ≤ h.val → heldL (h.val + 1) = srcS (ccwI h) :: srcS (cwI h.castSucc) :: heldL h.val := by decide
theorem src_cw : ∀ h : Fin 7, srcS (cwI h.castSucc) = posS h.val := by decide
theorem src_ccw : ∀ h : Fin 7, srcS (ccwI h) = negS h.val := by decide
theorem dst_cw : ∀ h : Fin 7, dstS (cwI h.castSucc) = posS (h.val + 1) := by decide
theorem dst_ccw : ∀ h : Fin 7, dstS (ccwI h) = negS (h.val + 1) := by decide
theorem later_cw : ∀ h : Fin 7, ∀ j ∈ order.drop (2 * (h.val + 1)), hopOf (cwI h.castSucc) < hopOf j := by decide
theorem later_ccw : ∀ h : Fin 7, ∀ j ∈ order.drop (2 * (h.val + 1)), hopOf (ccwI h) < hopOf j := by decide
theorem shr_cw : ∀ h : Fin 7, shr (cwI h.castSucc) = fullShare.left := fun h => if_neg (by revert h; decide)
theorem shr_ccw : ∀ h : Fin 7, 1 ≤ h.val → shr (ccwI h) = fullShare.left := fun h hh => if_neg (by revert h; decide)

/-- What a device holds before hop `n`, from 1 on, with `a` in the accumulator. -/
def St (c : Dev nD) (n : ℕ) (a : FVec F S256x512 .f32) : sProp 𝕄 :=
  iprop(bufs D c ∗ accP c a ∗ listSep (todo c) (order.drop (2 * n)) ∗ ow c (lanesO c (order.drop (2 * n)))
    ∗ listSep (ldone c) (doneL n) ∗ listSep (fun s => slot D c s fullShare) (heldL n)
    ∗ slot D c (posS n) fullShare ∗ slot D c (negS n) fullShare)

/-- A hop of the middle. -/
theorem wp_hop (c : Dev nD) (x : FVec F S256x512 .f32) (h : Fin 7) (hh : 1 ≤ h.val) (a : FVec F S256x512 .f32) (k : PF F) (Q : PUnit → sProp 𝕄) :
    iprop((Recs D K ∗ levAts L lv) ∗ St D c h.val a)
      ⊢ iprop((St D c (h.val + 1) (castV (addf (castV (addf a (shardAt D c x (posS h.val)))) (shardAt D c x (negS h.val)))) -∗ WP c k Q)
          -∗ WP c (hop c x h k) Q) := by
  unfold St hop
  rw [order_step h, done_step h, held_step h hh, src_cw h, src_ccw h, ← dst_cw h, ← dst_ccw h]
  simp only [listSep_cons]
  unfold todo
  iintro ⟨⟨#HR, #HL⟩, Hb, Ha, ⟨⟨Ht1, Hl1, Hc1, Hp1⟩, ⟨Ht2, Hl2, Hc2, Hp2⟩, Htodo⟩, HO, Hdone, Hheld, Hs1, Hs2⟩ Hk
  ihave Hs1 := (slot_split D c (posS h.val) fullShare) $$ Hs1
  icases Hs1 with ⟨Hs1, Hr1⟩
  ihave Hs2 := (slot_split D c (negS h.val) fullShare) $$ Hs2
  icases Hs2 with ⟨Hs2, Hr2⟩
  iapply (wp_sendLane D K c (cwI h.castSucc) (ccwI h :: order.drop (2 * (h.val + 1))) _ Q) $$ [Ht1 Hl1 Hs1 HO]
  · rw [src_cw h, shr_cw h]
    isplitr; · iexact HR
    isplitl [Ht1]; · iexact Ht1
    isplitl [Hl1]; · iexact Hl1
    isplitl [Hs1] <;> iassumption
  iintro ⟨Hsent1, HO⟩
  iapply (wp_sendLane D K c (ccwI h) (order.drop (2 * (h.val + 1))) _ Q) $$ [Ht2 Hl2 Hs2 HO]
  · rw [src_ccw h, shr_ccw h hh]
    isplitr; · iexact HR
    isplitl [Ht2]; · iexact Ht2
    isplitl [Hl2]; · iexact Hl2
    isplitl [Hs2] <;> iassumption
  iintro ⟨Hsent2, HO⟩
  iapply (wp_addShard D c x (posS h.val) fullShare.right a _ Q) $$ [Hb Hr1 Ha]
  · isplitl [Hb]; · iexact Hb
    isplitl [Hr1] <;> iassumption
  iintro ⟨Hb, Hr1, Ha⟩
  iapply (wp_addShard D c x (negS h.val) fullShare.right _ _ Q) $$ [Hb Hr2 Ha]
  · isplitl [Hb]; · iexact Hb
    isplitl [Hr2] <;> iassumption
  iintro ⟨Hb, Hr2, Ha⟩
  iapply (wp_waitLane D K c (cwI h.castSucc) (order.drop (2 * (h.val + 1))) (later_cw h) _ Q) $$ [Hsent1 Hc1 Hp1 HO]
  · isplitr; · iexact HR
    isplitr; · iexact HL
    isplitl [Hsent1]; · iexact Hsent1
    isplitl [Hc1]; · iexact Hc1
    isplitl [Hp1] <;> iassumption
  rw [src_cw h, shr_cw h]
  iintro ⟨Hs1, Hn1, Hd1, HO⟩
  iapply (wp_waitLane D K c (ccwI h) (order.drop (2 * (h.val + 1))) (later_ccw h) _ Q) $$ [Hsent2 Hc2 Hp2 HO]
  · isplitr; · iexact HR
    isplitr; · iexact HL
    isplitl [Hsent2]; · iexact Hsent2
    isplitl [Hc2]; · iexact Hc2
    isplitl [Hp2] <;> iassumption
  rw [src_ccw h, shr_ccw h hh]
  iintro ⟨Hs2, Hn2, Hd2, HO⟩
  ihave Hs1 := (slot_join D c (posS h.val) fullShare) $$ [Hs1 Hr1]
  · isplitl [Hs1] <;> iassumption
  ihave Hs2 := (slot_join D c (negS h.val) fullShare) $$ [Hs2 Hr2]
  · isplitl [Hs2] <;> iassumption
  iapply Hk
  isplitl [Hb]; · iexact Hb
  isplitl [Ha]; · iexact Ha
  isplitl [Htodo]; · iexact Htodo
  isplitl [HO]; · iexact HO
  isplitl [Hd1 Hd2 Hdone]
  · isplitl [Hd2]; · iexact Hd2
    isplitl [Hd1] <;> iassumption
  isplitl [Hs1 Hs2 Hheld]
  · isplitl [Hs2]; · iexact Hs2
    isplitl [Hs1] <;> iassumption
  isplitl [Hn1] <;> iassumption

/-! ## The first hop and the last -/

/-- The first hop: slot 0 is read by both lanes and by the shard's computation together. -/
theorem wp_first (c : Dev nD) (x a : FVec F S256x512 .f32) (k : PF F) (Q : PUnit → sProp 𝕄) :
    iprop((Recs D K ∗ levAts L lv) ∗ bufs D c ∗ accP c a ∗ listSep (todo c) order ∗ ow c (lanesO c order) ∗ slot D c 0 fullShare)
      ⊢ iprop((St D c 1 (accN D c x 0) -∗ WP c k Q)
          -∗ WP c (sendLane c (cwI 0) <| sendLane c (ccwI 0) <| setShard c x 0 <| waitLane (cwI 0) <| waitLane (ccwI 0) k) Q) := by
  have e1 : order = cwI 0 :: ccwI 0 :: order.drop (2 * 1) := by decide
  have e2 : doneL 1 = [ccwI 0, cwI 0] := by decide
  have e3 : heldL 1 = [0] := by decide
  have e4 : posS 1 = dstS (cwI 0) := by decide
  have e5 : negS 1 = dstS (ccwI 0) := by decide
  have s1 : srcS (cwI 0) = 0 := by decide
  have s2 : srcS (ccwI 0) = 0 := by decide
  have h1 : shr (cwI 0) = fullShare.left := if_neg (by decide)
  have h2 : shr (ccwI 0) = fullShare.right.left := if_pos (by decide)
  unfold St
  rw [e1, e2, e3, e4, e5]
  rw [show (cwI 0 :: ccwI 0 :: order.drop (2 * 1)).drop (2 * 1) = order.drop (2 * 1) from rfl]
  simp only [listSep_cons]
  unfold todo accN
  iintro ⟨⟨#HR, #HL⟩, Hb, Ha, ⟨⟨Ht1, Hl1, Hc1, Hp1⟩, ⟨Ht2, Hl2, Hc2, Hp2⟩, Htodo⟩, HO, Hs⟩ Hk
  ihave Hs := (slot_split D c 0 fullShare) $$ Hs
  icases Hs with ⟨Hs1, Hr⟩
  ihave Hr := (slot_split D c 0 fullShare.right) $$ Hr
  icases Hr with ⟨Hs2, Hr⟩
  iapply (wp_sendLane D K c (cwI 0) (ccwI 0 :: order.drop (2 * 1)) _ Q) $$ [Ht1 Hl1 Hs1 HO]
  · rw [s1, h1]
    isplitr; · iexact HR
    isplitl [Ht1]; · iexact Ht1
    isplitl [Hl1]; · iexact Hl1
    isplitl [Hs1] <;> iassumption
  iintro ⟨Hsent1, HO⟩
  iapply (wp_sendLane D K c (ccwI 0) (order.drop (2 * 1)) _ Q) $$ [Ht2 Hl2 Hs2 HO]
  · rw [s2, h2]
    isplitr; · iexact HR
    isplitl [Ht2]; · iexact Ht2
    isplitl [Hl2]; · iexact Hl2
    isplitl [Hs2] <;> iassumption
  iintro ⟨Hsent2, HO⟩
  iapply (wp_setShard D c x 0 fullShare.right.right a _ Q) $$ [Hb Hr Ha]
  · isplitl [Hb]; · iexact Hb
    isplitl [Hr] <;> iassumption
  iintro ⟨Hb, Hr, Ha⟩
  iapply (wp_waitLane D K c (cwI 0) (order.drop (2 * 1)) (by decide) _ Q) $$ [Hsent1 Hc1 Hp1 HO]
  · isplitr; · iexact HR
    isplitr; · iexact HL
    isplitl [Hsent1]; · iexact Hsent1
    isplitl [Hc1]; · iexact Hc1
    isplitl [Hp1] <;> iassumption
  rw [s1, h1]
  iintro ⟨Hs1, Hn1, Hd1, HO⟩
  iapply (wp_waitLane D K c (ccwI 0) (order.drop (2 * 1)) (by decide) _ Q) $$ [Hsent2 Hc2 Hp2 HO]
  · isplitr; · iexact HR
    isplitr; · iexact HL
    isplitl [Hsent2]; · iexact Hsent2
    isplitl [Hc2]; · iexact Hc2
    isplitl [Hp2] <;> iassumption
  rw [s2, h2]
  iintro ⟨Hs2, Hn2, Hd2, HO⟩
  ihave Hr := (slot_join D c 0 fullShare.right) $$ [Hs2 Hr]
  · isplitl [Hs2] <;> iassumption
  ihave Hs := (slot_join D c 0 fullShare) $$ [Hs1 Hr]
  · isplitl [Hs1] <;> iassumption
  iapply Hk
  isplitl [Hb]; · iexact Hb
  isplitl [Ha]; · iexact Ha
  isplitl [Htodo]; · iexact Htodo
  isplitl [HO]; · iexact HO
  isplitl [Hd1 Hd2]
  · isplitl [Hd2]; · iexact Hd2
    isplitl [Hd1]; · iexact Hd1
    unfold listSep; iempintro
  isplitl [Hs]
  · isplitl [Hs]; · iexact Hs
    unfold listSep; iempintro
  isplitl [Hn1] <;> iassumption

/-- The result before it is reshaped. -/
def accEnd (c : Dev nD) (x : FVec F S256x512 .f32) : FVec F S256x512 .f32 := castV (addf (accN D c x 7) (shardAt D c x 8))

/-- What a device holds after the ring. -/
def StEnd (c : Dev nD) (x : FVec F S256x512 .f32) : sProp 𝕄 :=
  iprop(bufs D c ∗ accP c (accEnd D c x) ∗ outP c (k0_pay178 (accEnd D c x)) ∗ ow c 0 ∗ listSep (ldone c) (cwI 7 :: doneL 7)
    ∗ listSep (fun s => slot D c s fullShare) (8 :: 9 :: 7 :: heldL 7))

/-- The last lane, the last three shards, and the result stored. -/
theorem wp_last (c : Dev nD) (x : FVec F S256x512 .f32) (f : (cc0_stg3_0 : Ref sig .tc).ty.Contents (Elt F)) (k : PF F) (Q : PUnit → sProp 𝕄) :
    iprop((Recs D K ∗ levAts L lv) ∗ St D c 7 (accN D c x 6) ∗ outP c f)
      ⊢ iprop((StEnd D c x -∗ WP c k Q)
          -∗ WP c (sendLane c (cwI 7) <| addShard c x (srcS (cwI 7)) <| addShard c x 9 <| waitLane (cwI 7) <|
            addShard c x (dstS (cwI 7)) <| finish k) Q) := by
  have e1 : order.drop (2 * 7) = [cwI 7] := by decide
  have s1 : srcS (cwI 7) = 7 := by decide
  have s2 : dstS (cwI 7) = 8 := by decide
  have e4 : posS 7 = 7 := by decide
  have e5 : negS 7 = 9 := by decide
  have h1 : shr (cwI 7) = fullShare.left := if_neg (by decide)
  have ea : accN D c x 7 = castV (addf (castV (addf (accN D c x 6) (shardAt D c x 7))) (shardAt D c x 9)) := by
    rw [← e4, ← e5]; rfl
  unfold St StEnd accEnd
  rw [e1, e4, e5, ea]
  simp only [listSep_cons]
  unfold todo
  iintro ⟨⟨#HR, #HL⟩, ⟨Hb, Ha, ⟨⟨Ht1, Hl1, Hc1, Hp1⟩, -⟩, HO, Hdone, Hheld, Hs1, Hs2⟩, Hout⟩ Hk
  ihave Hs1 := (slot_split D c 7 fullShare) $$ Hs1
  icases Hs1 with ⟨Hs1, Hr1⟩
  iapply (wp_sendLane D K c (cwI 7) [] _ Q) $$ [Ht1 Hl1 Hs1 HO]
  · rw [s1, h1]
    isplitr; · iexact HR
    isplitl [Ht1]; · iexact Ht1
    isplitl [Hl1]; · iexact Hl1
    isplitl [Hs1] <;> iassumption
  rw [s1]
  iintro ⟨Hsent1, HO⟩
  iapply (wp_addShard D c x 7 fullShare.right _ _ Q) $$ [Hb Hr1 Ha]
  · isplitl [Hb]; · iexact Hb
    isplitl [Hr1] <;> iassumption
  iintro ⟨Hb, Hr1, Ha⟩
  iapply (wp_addShard D c x 9 fullShare _ _ Q) $$ [Hb Hs2 Ha]
  · isplitl [Hb]; · iexact Hb
    isplitl [Hs2] <;> iassumption
  iintro ⟨Hb, Hs2, Ha⟩
  rw [← s1]
  iapply (wp_waitLane D K c (cwI 7) [] (fun j hj => absurd hj List.not_mem_nil) _ Q) $$ [Hsent1 Hc1 Hp1 HO]
  · isplitr; · iexact HR
    isplitr; · iexact HL
    isplitl [Hsent1]; · iexact Hsent1
    isplitl [Hc1]; · iexact Hc1
    isplitl [Hp1] <;> iassumption
  rw [s1, s2, h1]
  iintro ⟨Hs1, Hn1, Hd1, HO⟩
  ihave Hs1 := (slot_join D c 7 fullShare) $$ [Hs1 Hr1]
  · isplitl [Hs1] <;> iassumption
  iapply (wp_addShard D c x 8 fullShare _ _ Q) $$ [Hb Hn1 Ha]
  · isplitl [Hb]; · iexact Hb
    isplitl [Hn1] <;> iassumption
  iintro ⟨Hb, Hn1, Ha⟩
  iapply (wp_finish c _ f k Q) $$ [Ha Hout]
  · isplitl [Ha] <;> iassumption
  iintro ⟨Ha, Hout⟩
  iapply Hk
  isplitl [Hb]; · iexact Hb
  isplitl [Ha]; · iexact Ha
  isplitl [Hout]; · iexact Hout
  isplitl [HO]; · iexact HO
  isplitl [Hd1 Hdone]
  · isplitl [Hd1] <;> iassumption
  isplitl [Hn1]; · iexact Hn1
  isplitl [Hs2]; · iexact Hs2
  isplitl [Hs1] <;> iassumption

/-- The whole ring. -/
theorem wp_ring (c : Dev nD) (x a : FVec F S256x512 .f32) (f : (cc0_stg3_0 : Ref sig .tc).ty.Contents (Elt F)) (k : PF F) (Q : PUnit → sProp 𝕄) :
    iprop((Recs D K ∗ levAts L lv) ∗ bufs D c ∗ accP c a ∗ listSep (todo c) order ∗ ow c (lanesO c order) ∗ slot D c 0 fullShare ∗ outP c f)
      ⊢ iprop((StEnd D c x -∗ WP c k Q) -∗ WP c (ring c x k) Q) := by
  have hi : ∀ i : Fin 6, (([1, 2, 3, 4, 5, 6] : List (Fin 7))[i.val]'i.isLt).val = i.val + 1 := by decide
  iintro ⟨#HP, Hb, Ha, Htodo, HO, Hs, Hout⟩ Hk
  iapply (wp_first D K c x a _ Q) $$ [Hb Ha Htodo HO Hs]
  · isplitr; · iexact HP
    isplitl [Hb]; · iexact Hb
    isplitl [Ha]; · iexact Ha
    isplitl [Htodo]; · iexact Htodo
    isplitl [HO] <;> iassumption
  iintro HS
  iapply (wp_each c iprop(Recs D K ∗ levAts L lv) (hop c x) Q [1, 2, 3, 4, 5, 6] (fun i => St D c (i + 1) (accN D c x i)) _
    (fun i hl k => by
      have e := hi ⟨i, hl⟩
      have t := wp_hop D K c x (([1, 2, 3, 4, 5, 6] : List (Fin 7))[i]'hl) (by rw [e]; exact Nat.succ_pos i) (accN D c x i) k Q
      rw [e] at t
      exact t)) $$ [HS]
  · isplitr; · iexact HP
    iexact HS
  iintro HS
  iapply (wp_last D K c x f k Q) $$ [HS Hout]
  · isplitr; · iexact HP
    isplitl [HS]; · iexact HS
    iexact Hout
  iexact Hk

end Cert.KernelIdeal.Attn

end
-- ==== Proof.KernelIdeal.Local.lean ====
/-
# The copies of a device's own keys and values

The 64 heads' rows of the two replicated arguments are copied into local buffers, all copies of one argument signalling one
semaphore. Each wait but the last takes an unknown part of what the copies hand over; the last leaves all of it.
-/
module

public import proofs.«01_k».proof.Proof.KernelIdeal.Ring

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F) (K : Dev nD × CB → ℕ)

/-! ## Starting the copies -/

/-- `n` copies of an assertion. -/
def copies (P : sProp 𝕄) : ℕ → sProp 𝕄
  | 0 => iprop(emp)
  | n + 1 => iprop(P ∗ copies P n)

/-- The credit for one local copy. -/
def credL (w : Bool) (c : Dev nD) : sProp 𝕄 := cred (tallyAt (cellAt c (loc w)) () (NL w))

/-- What copying one head takes. -/
def item (w : Bool) (c : Dev nD) (h : Fin 64) : sProp 𝕄 :=
  iprop((∃ f, headW w c h f) ∗ srcW D w c h ∗ dutyTok ER (cellAt c (loc w)) 0 h)

theorem mem_head (c : Dev nD) (w : Bool) (h : Fin 64) : h ∈ (Rd D).duties (cellAt c (loc w)) 0 := by
  rw [duties_cell]; exact Finset.mem_univ h

theorem wp_copyK (c : Dev nD) (h : Fin 64) (k : PF F) (Q : PUnit → sProp 𝕄) :
    iprop(Recs D K ∗ item D false c h) ⊢ iprop((credL false c -∗ WP c k Q) -∗ WP c (copyK c h k) Q) := by
  unfold item credL
  iintro ⟨#HR, ⟨%f, Hd⟩, Hs, Ht⟩ Hk
  ihave Hd := (show headW false c h f ⊢ ((ktW h).view.loc (c : Thread nD τ) ↦[(ktW h).view.set]{fullShare} f) from BI.Entails.refl _) $$ Hd
  ihave Hs := (show srcW D false c h ⊢ ((kW h c).view.loc (c : Thread nD τ) ↦[(kW h c).view.set]{fullShare} D.K c) from BI.Entails.refl _) $$ Hs
  have hl : (((ktW h).view.loc (c : Thread nD τ) ↦[(ktW h).view.set]{fullShare}
        ((ktW h).view.write (Elt F) f ((kW h c).view.read (Elt F) (D.K c)) Finset.univ)) : sProp 𝕄)
      = headW false c h (headsK (D.K c) c) := pointsTo_congr (write_agree _ _ _ _ (copy_K (D.K c) c h))
  have hpay : iprop(((ktW h).view.loc (c : Thread nD τ) ↦[(ktW h).view.set]{fullShare}
        ((ktW h).view.write (Elt F) f ((kW h c).view.read (Elt F) (D.K c)) Finset.univ))
      ∗ ((kW h c).view.loc (c : Thread nD τ) ↦[(kW h c).view.set]{fullShare} D.K c)) ⊢ (Rd D).payload (cellAt c (loc false)) 0 h := by
    rw [payload_cell, hl]
    exact BI.Entails.refl _
  have hst := Rounds.wp_copy_pointsTo (defs := defs₀ (F := F)) (Γ := .empty) 𝒱₀ ER (Rd D) (c : Thread nD τ) none
    (κ := K (c, .inr (loc false))) (src := kW h c) (dst := ktW h) (sem := .dma (lS false)) (k := fun _ => k) (Q := Q)
    (hsrc := (View.wordExact_bits rfl).reshape _ _) (hdst := (View.wordExact_bits rfl).reshape _ _) (hsem := ⟨Or.inl rfl, trivial⟩)
    (r := 0) (d := h) (fd := f) (fs := D.K c) (q := fullShare) (Es := Set.univ)
    (mem_head D c false h) () (NL false) rfl (amount_cell D c (loc false) h) hpay
  iapply hst $$ [Hs Hd Ht]
  · isplitr; · iapply (recs_cell D K c (loc false)); iexact HR
    isplitl [Hs]; · iexact Hs
    isplitl [Hd]; · iexact Hd
    isplitl [Ht]; · iexact Ht
    iapply (recs_reached D K c (loc false)); iexact HR
  iintro Hc
  iapply Hk; iexact Hc

theorem wp_copyV (c : Dev nD) (h : Fin 64) (k : PF F) (Q : PUnit → sProp 𝕄) :
    iprop(Recs D K ∗ item D true c h) ⊢ iprop((credL true c -∗ WP c k Q) -∗ WP c (copyV c h k) Q) := by
  unfold item credL
  iintro ⟨#HR, ⟨%f, Hd⟩, Hs, Ht⟩ Hk
  ihave Hd := (show headW true c h f ⊢ ((vtW h).view.loc (c : Thread nD τ) ↦[(vtW h).view.set]{fullShare} f) from BI.Entails.refl _) $$ Hd
  ihave Hs := (show srcW D true c h ⊢ ((vW h c).view.loc (c : Thread nD τ) ↦[(vW h c).view.set]{fullShare} D.V c) from BI.Entails.refl _) $$ Hs
  have hl : (((vtW h).view.loc (c : Thread nD τ) ↦[(vtW h).view.set]{fullShare}
        ((vtW h).view.write (Elt F) f ((vW h c).view.read (Elt F) (D.V c)) Finset.univ)) : sProp 𝕄)
      = headW true c h (headsK (D.V c) c) := pointsTo_congr (write_agree _ _ _ _ (copy_V (D.V c) c h))
  have hpay : iprop(((vtW h).view.loc (c : Thread nD τ) ↦[(vtW h).view.set]{fullShare}
        ((vtW h).view.write (Elt F) f ((vW h c).view.read (Elt F) (D.V c)) Finset.univ))
      ∗ ((vW h c).view.loc (c : Thread nD τ) ↦[(vW h c).view.set]{fullShare} D.V c)) ⊢ (Rd D).payload (cellAt c (loc true)) 0 h := by
    rw [payload_cell, hl]
    exact BI.Entails.refl _
  have hst := Rounds.wp_copy_pointsTo (defs := defs₀ (F := F)) (Γ := .empty) 𝒱₀ ER (Rd D) (c : Thread nD τ) none
    (κ := K (c, .inr (loc true))) (src := vW h c) (dst := vtW h) (sem := .dma (lS true)) (k := fun _ => k) (Q := Q)
    (hsrc := (View.wordExact_bits rfl).reshape _ _) (hdst := (View.wordExact_bits rfl).reshape _ _) (hsem := ⟨Or.inl rfl, trivial⟩)
    (r := 0) (d := h) (fd := f) (fs := D.V c) (q := fullShare) (Es := Set.univ)
    (mem_head D c true h) () (NL true) rfl (amount_cell D c (loc true) h) hpay
  iapply hst $$ [Hs Hd Ht]
  · isplitr; · iapply (recs_cell D K c (loc true)); iexact HR
    isplitl [Hs]; · iexact Hs
    isplitl [Hd]; · iexact Hd
    isplitl [Ht]; · iexact Ht
    iapply (recs_reached D K c (loc true)); iexact HR
  iintro Hc
  iapply Hk; iexact Hc

/-- A separating conjunction, parted at a subset. -/
theorem bigSep_part {I : Type} [DecidableEq I] {s t : Finset I} (h : t ⊆ s) (Φ : I → sProp 𝕄) :
    bigSep s Φ = iprop(bigSep t Φ ∗ bigSep (s \ t) Φ) := bigSep_sdiff_split h

/-- Before the `i`-th head is copied. -/
def CS (c : Dev nD) (i : ℕ) : sProp 𝕄 :=
  iprop((listSep (item D false c) (heads.drop i) ∗ listSep (item D true c) (heads.drop i))
    ∗ copies (credL (F := F) false c) i ∗ copies (credL (F := F) true c) i)

theorem wp_copies (c : Dev nD) (k : PF F) (Q : PUnit → sProp 𝕄) :
    iprop(Recs D K ∗ listSep (item D false c) heads ∗ listSep (item D true c) heads)
      ⊢ iprop(((copies (credL (F := F) false c) 64 ∗ copies (credL (F := F) true c) 64) -∗ WP c k Q) -∗ WP c (each (copyHead c) heads k) Q) := by
  iintro ⟨#HR, H1, H2⟩ Hk
  iapply (wp_each c (Recs D K) (copyHead c) Q heads (CS D c) k (fun i hi k => by
    unfold CS
    rw [List.drop_eq_getElem_cons hi, listSep_cons, listSep_cons, copies, copies]
    iintro ⟨#HR, ⟨⟨H1, H1s⟩, H2, H2s⟩, Hc1, Hc2⟩ Hk
    iapply (wp_copyK D K c (heads[i]'hi) _ Q) $$ [H1]
    · isplitr; · iexact HR
      iexact H1
    iintro Hn1
    iapply (wp_copyV D K c (heads[i]'hi) _ Q) $$ [H2]
    · isplitr; · iexact HR
      iexact H2
    iintro Hn2
    iapply Hk
    isplitl [H1s H2s]; · isplitl [H1s] <;> iassumption
    isplitl [Hc1 Hn1]; · isplitl [Hn1] <;> iassumption
    isplitl [Hn2] <;> iassumption)) $$ [H1 H2]
  · isplitr; · iexact HR
    unfold CS copies
    rw [show heads.drop 0 = heads from rfl]
    isplitl [H1 H2]; · isplitl [H1] <;> iassumption
    isplitl <;> iempintro
  unfold CS
  iintro ⟨-, Hc⟩
  iapply Hk; iexact Hc

/-! ## Awaiting them -/

/-- After `n` waits for the copies of one buffer: the payloads some of them handed over; after the last, all of them and
    the cell closed. -/
def WS (w : Bool) (c : Dev nD) (n : ℕ) : sProp 𝕄 :=
  if n < 64 then iprop(∃ T, bigSep T (fun d => pay D c d (loc w)) ∗ atPos ER (cellAt c (loc w)) 0 T (n * NL w))
  else iprop(bigSep Finset.univ (fun d => pay D c d (loc w)) ∗ semVal (cellAt c (loc w)) 0)

theorem expect_loc (c : Dev nD) (w : Bool) : (Rd D).expect (cellAt c (loc w)) 0 = 64 * NL w := by
  rw [expect_cell]; rfl

theorem wp_waitLoc (w : Bool) (c : Dev nD) (n : ℕ) (hn : n < 64) {o : TpuEff nD τ sig (Elt F) Λ₀ .tc PUnit}
    (hw : ∀ P : PUnit → sProp 𝕄, wpE (defs₀ (F := F)) 𝒱₀ (c : Thread nD τ) none Set.univ o P
      = waitSpec (c : Thread nD τ) Set.univ (osem (loc w)) (NL w) P) (k : PF F) (Q : PUnit → sProp 𝕄) :
    iprop((Recs D K ∗ levAts L lv) ∗ WS D w c n ∗ credL w c ∗ ow c (lanesO c order))
      ⊢ iprop(((WS D w c (n + 1) ∗ ow c (lanesO c order)) -∗ WP c k Q) -∗ WP c (.op o fun _ => k) Q) := by
  have hmay : (levAts L lv : sProp 𝕄) ⊢ MayWait (c : Thread nD τ) (osem (loc w)) () (lanesO c order) :=
    mayWait_lanes c (osem (loc w)) order 0 (by rw [lv_loc]) (fun i _ => by omega)
  unfold ow credL
  rw [show WS D w c n = iprop(∃ T, bigSep T (fun d => pay D c d (loc w)) ∗ atPos ER (cellAt c (loc w)) 0 T (n * NL w)) from if_pos hn]
  iintro ⟨⟨#HR, #HL⟩, ⟨%T, Hpay, Hat⟩, Hc, %W, HO⟩ Hk
  by_cases hlast : n + 1 < 64
  · rw [show WS D w c (n + 1) = iprop(∃ T, bigSep T (fun d => pay D c d (loc w)) ∗ atPos ER (cellAt c (loc w)) 0 T ((n + 1) * NL w)) from
      if_pos hlast]
    iapply (Rounds.wp_wait 𝒱₀ ER (Rd D) (c : Thread nD τ) none (κ := K (c, .inr (loc w))) (sm := osem (loc w)) (k' := NL w)
      hw (Set.mem_univ _) (cr := Finsupp.single () (NL w)) (O := lanesO c order) (W := W) {(osem (loc w), ())} (R := 0) (m := n * NL w) (T := T)
      (Util.total_single _ _) (image_single_subset _ _ _)) $$ [Hc HO Hat]
    · isplitr; · iapply (recs_cell D K c (loc w)); iexact HR
      isplitl [Hc]; · iexact Hc
      isplitl [HO]; · iexact HO
      isplitr; · iapply hmay; iexact HL
      iexact Hat
    iintro %S ⟨%hS, HO, Hat, Hnew⟩
    iapply Hk
    isplitl [Hpay Hat Hnew]
    · iexists S
      rw [show (n + 1) * NL w = n * NL w + NL w from Nat.succ_mul n _, bigSep_part hS.1]
      isplitl [Hpay Hnew]
      · isplitl [Hpay]; · iexact Hpay
        rw [bigSep_congr (fun d _ => (payload_cell D c (loc w) d).symm)]
        iexact Hnew
      iexact Hat
    iexists _; iexact HO
  · rw [show WS D w c (n + 1) = iprop(bigSep Finset.univ (fun d => pay D c d (loc w)) ∗ semVal (cellAt c (loc w)) 0) from if_neg hlast]
    iapply (Rounds.wp_wait_rest_token 𝒱₀ ER (Rd D) (c : Thread nD τ) none (κ := K (c, .inr (loc w))) (sm := osem (loc w)) (k' := NL w)
      hw (Set.mem_univ _) () (O := lanesO c order) (W := W) (R := 0) (m := n * NL w) (T := T)
      (by rw [expect_loc, show n = 63 by omega, ← Nat.succ_mul])) $$ [Hc HO Hat]
    · isplitr; · iapply (recs_cell D K c (loc w)); iexact HR
      isplitl [Hc]; · iexact Hc
      isplitl [HO]; · iexact HO
      isplitr; · iapply hmay; iexact HL
      iexact Hat
    iintro ⟨HO, Hat, -, Hnew⟩
    imod (Rounds.cell_close ER (Rd D) (Set.mem_univ (K (c, .inr (loc w)))) (fun h => h) (R := 0 + 1) (duties_later D (cellAt c (loc w)))) $$ [Hat] with Hz
    · isplitr; · iapply (recs_cell D K c (loc w)); iexact HR
      iexact Hat
    iapply Hk
    isplitl [Hpay Hnew Hz]
    · isplitl [Hpay Hnew]
      · rw [bigSep_part (Finset.subset_univ T)]
        isplitl [Hpay]; · iexact Hpay
        rw [bigSep_congr (fun d _ => (payload_cell D c (loc w) d).symm)]
        ihave Hnew := (Entails.of_eq (show bigSep ((Rd D).duties (cellAt c (loc w)) 0 \ T) (fun d => (Rd D).payload (cellAt c (loc w)) 0 d)
          = bigSep (Finset.univ \ T) (fun d => (Rd D).payload (cellAt c (loc w)) 0 d) by rw [duties_cell]; rfl)) $$ Hnew
        iexact Hnew
      iexact Hz
    iexists _; iexact HO

/-- Before the `i`-th head is awaited. -/
def VS (c : Dev nD) (i : ℕ) : sProp 𝕄 :=
  iprop((WS D false c i ∗ WS D true c i) ∗ (copies (credL (F := F) false c) (64 - i) ∗ copies (credL (F := F) true c) (64 - i))
    ∗ ow c (lanesO c order))

/-- What the copies leave: every head's window filled, every source window back, the two cells closed. -/
def copied (w : Bool) (c : Dev nD) : sProp 𝕄 := iprop(bigSep Finset.univ (fun d => pay D c d (loc w)) ∗ semVal (cellAt c (loc w)) 0)

theorem wp_waits (c : Dev nD) (k : PF F) (Q : PUnit → sProp 𝕄) :
    iprop((Recs D K ∗ levAts L lv) ∗ (atPos ER (cellAt c (loc false)) 0 ∅ 0 ∗ atPos ER (cellAt c (loc true)) 0 ∅ 0)
        ∗ (copies (credL (F := F) false c) 64 ∗ copies (credL (F := F) true c) 64) ∗ ow c (lanesO c order))
      ⊢ iprop(((copied D false c ∗ copied D true c ∗ ow c (lanesO c order)) -∗ WP c k Q) -∗ WP c (each (waitHead c) heads k) Q) := by
  have hz : ∀ w, (atPos ER (cellAt c (loc w)) 0 ∅ 0 : sProp 𝕄) ⊢ WS D w c 0 := fun w => by
    unfold WS
    rw [if_pos (by decide), Nat.zero_mul]
    iintro H
    iexists ∅
    isplitr; · rw [bigSep_empty]; iempintro
    iexact H
  iintro ⟨#HP, ⟨Ha1, Ha2⟩, Hc, HO⟩ Hk
  iapply (wp_each c iprop(Recs D K ∗ levAts L lv) (waitHead c) Q heads (VS D c) k (fun i hi k => by
    have hi' : i < 64 := hi
    unfold VS
    rw [show 64 - i = (64 - (i + 1)) + 1 by omega, copies, copies]
    iintro ⟨#HP, ⟨Hw1, Hw2⟩, ⟨⟨Hc1, Hc1s⟩, Hc2, Hc2s⟩, HO⟩ Hk
    iapply (wp_waitLoc D K false c i hi' (o := .waitDma2 (lS false) (kW (heads[i]'hi) c) (ktW (heads[i]'hi))
      ((View.wordExact_bits rfl).reshape _ _) ((View.wordExact_bits rfl).reshape _ _)) (fun P => rfl) _ Q) $$ [Hw1 Hc1 HO]
    · isplitr; · iexact HP
      isplitl [Hw1]; · iexact Hw1
      isplitl [Hc1] <;> iassumption
    iintro ⟨Hw1, HO⟩
    iapply (wp_waitLoc D K true c i hi' (o := .waitDma2 (lS true) (vW (heads[i]'hi) c) (vtW (heads[i]'hi))
      ((View.wordExact_bits rfl).reshape _ _) ((View.wordExact_bits rfl).reshape _ _)) (fun P => rfl) _ Q) $$ [Hw2 Hc2 HO]
    · isplitr; · iexact HP
      isplitl [Hw2]; · iexact Hw2
      isplitl [Hc2] <;> iassumption
    iintro ⟨Hw2, HO⟩
    iapply Hk
    isplitl [Hw1 Hw2]; · isplitl [Hw1] <;> iassumption
    isplitl [Hc1s Hc2s]; · isplitl [Hc1s] <;> iassumption
    iexact HO)) $$ [Ha1 Ha2 Hc HO]
  · isplitr; · iexact HP
    unfold VS
    isplitl [Ha1 Ha2]
    · isplitl [Ha1]
      · iapply (hz false); iexact Ha1
      · iapply (hz true); iexact Ha2
    isplitl [Hc] <;> iassumption
  unfold VS WS
  rw [if_neg (show ¬ heads.length < 64 by decide), if_neg (show ¬ heads.length < 64 by decide)]
  iintro ⟨⟨H1, H2⟩, -, HO⟩
  iapply Hk
  unfold copied
  isplitl [H1]; · iexact H1
  isplitl [H2] <;> iassumption

end Cert.KernelIdeal.Attn

end
-- ==== Proof.KernelIdeal.Parts.lean ====
/-
# Buffers whole and in parts

The ring buffers as their 16 slots, the local buffers as their 64 heads, and the replicated arguments as the windows a
device copies and the rest.
-/
module

public import proofs.«01_k».proof.Proof.KernelIdeal.Local

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F) (K : Dev nD × CB → ℕ)

/-! ## Separating conjunctions over lists -/

theorem listSep_nil {A : Type} (f : A → sProp 𝕄) : listSep f [] = iprop(emp) := rfl

theorem listSep_toFinset {A : Type} [DecidableEq A] (f : A → sProp 𝕄) : ∀ l : List A, l.Nodup → listSep f l = bigSep l.toFinset f
  | [], _ => by rw [List.toFinset_nil, bigSep_empty]; rfl
  | a :: l, h => by
    rw [listSep_cons, List.toFinset_cons, bigSep_insert (fun hm => (List.nodup_cons.mp h).1 (List.mem_toFinset.mp hm)),
      listSep_toFinset f l (List.nodup_cons.mp h).2]
    rfl

/-- Over a list of all members, each once. -/
theorem listSep_univ {A : Type} [DecidableEq A] [Fintype A] (f : A → sProp 𝕄) (l : List A) (h : l.Nodup) (ha : ∀ a, a ∈ l) :
    listSep f l = bigSep Finset.univ f := by
  rw [listSep_toFinset f l h, show l.toFinset = Finset.univ from Finset.eq_univ_iff_forall.mpr fun a => List.mem_toFinset.mpr (ha a)]

theorem listSep_map {A B : Type} (g : A → B) (f : B → sProp 𝕄) : ∀ l : List A, listSep f (l.map g) = listSep (fun a => f (g a)) l
  | [] => rfl
  | a :: l => by rw [List.map_cons, listSep_cons, listSep_cons, listSep_map g f l]

theorem listSep_congr {A : Type} (f g : A → sProp 𝕄) : ∀ l : List A, (∀ a ∈ l, f a = g a) → listSep f l = listSep g l
  | [], _ => rfl
  | a :: l, h => by
    rw [listSep_cons, listSep_cons, h a List.mem_cons_self, listSep_congr f g l fun b hb => h b (List.mem_cons_of_mem _ hb)]

/-- Member by member, with something persistent at hand. -/
theorem listSep_mono {A : Type} (P : sProp 𝕄) [BI.Persistent P] (f g : A → sProp 𝕄) : ∀ l : List A, (∀ a ∈ l, iprop(P ∗ f a) ⊢ g a) →
    iprop(P ∗ listSep f l) ⊢ listSep g l
  | [], _ => by unfold listSep; iintro ⟨-, H⟩; iexact H
  | a :: l, h => by
    rw [listSep_cons, listSep_cons]
    iintro ⟨#HP, H1, H2⟩
    isplitl [H1]
    · iapply (h a List.mem_cons_self); isplitr; · iexact HP
      iexact H1
    · iapply (listSep_mono P f g l fun b hb => h b (List.mem_cons_of_mem _ hb)); isplitr; · iexact HP
      iexact H2

theorem listSep_sep {A : Type} (f g : A → sProp 𝕄) : ∀ l : List A, iprop(listSep f l ∗ listSep g l) ⊢ listSep (fun a => iprop(f a ∗ g a)) l
  | [] => by unfold listSep; iintro ⟨H, -⟩; iexact H
  | a :: l => by
    rw [listSep_cons, listSep_cons, listSep_cons]
    iintro ⟨⟨H1, H1s⟩, H2, H2s⟩
    isplitl [H1 H2]; · isplitl [H1] <;> iassumption
    iapply (listSep_sep f g l); isplitl [H1s] <;> iassumption

theorem listSep_append {A : Type} (f : A → sProp 𝕄) : ∀ l l' : List A, iprop(listSep f l ∗ listSep f l') ⊢ listSep f (l ++ l')
  | [], l' => by iintro ⟨-, H⟩; iexact H
  | a :: l, l' => by
    rw [List.cons_append, listSep_cons, listSep_cons]
    iintro ⟨⟨H1, H1s⟩, H2⟩
    isplitl [H1]; · iexact H1
    iapply (listSep_append f l l'); isplitl [H1s] <;> iassumption

theorem listSep_split {A : Type} (f : A → sProp 𝕄) : ∀ l l' : List A, listSep f (l ++ l') ⊢ iprop(listSep f l ∗ listSep f l')
  | [], l' => by
    iintro H
    isplitr; · unfold listSep; iempintro
    iexact H
  | a :: l, l' => by
    rw [List.cons_append, listSep_cons, listSep_cons]
    iintro ⟨H1, H⟩
    ihave H := (listSep_split f l l') $$ H
    icases H with ⟨H1s, H2⟩
    isplitl [H1 H1s]; · isplitl [H1] <;> iassumption
    iexact H2

/-! ## Buffers whole and in parts -/

/-- The ring buffers, the local buffers and the two replicated arguments of a device, whole. -/
def qAll (c : Dev nD) (f : (cc0_scratch0 : Ref sig .tc).ty.Contents (Elt F)) : sProp 𝕄 :=
  wqB.view.loc (c : Thread nD τ) ↦[Finset.univ]{fullShare} f
def oAll (c : Dev nD) (f : (cc0_scratch1 : Ref sig .tc).ty.Contents (Elt F)) : sProp 𝕄 :=
  woB.view.loc (c : Thread nD τ) ↦[Finset.univ]{fullShare} f
def locAll (w : Bool) (c : Dev nD) (f : S64x2x128x64.Idx → Elt F .f32) : sProp 𝕄 :=
  match w with
  | false => ktB.view.loc (c : Thread nD τ) ↦[Finset.univ]{fullShare} f
  | true => vtB.view.loc (c : Thread nD τ) ↦[Finset.univ]{fullShare} f
def argAll (w : Bool) (c : Dev nD) : sProp 𝕄 :=
  match w with
  | false => kM.view.loc (c : Thread nD τ) ↦[Finset.univ]{fullShare} D.K c
  | true => vM.view.loc (c : Thread nD τ) ↦[Finset.univ]{fullShare} D.V c
/-- What no local copy reads of an argument. -/
def argRest (w : Bool) (c : Dev nD) : sProp 𝕄 :=
  match w with
  | false => kM.view.loc (c : Thread nD τ) ↦[Finset.univ \ Finset.univ.biUnion fun h => (khR h c).set]{fullShare} D.K c
  | true => vM.view.loc (c : Thread nD τ) ↦[Finset.univ \ Finset.univ.biUnion fun h => (khR h c).set]{fullShare} D.V c

theorem qAll_eq (c : Dev nD) (f : (cc0_scratch0 : Ref sig .tc).ty.Contents (Elt F)) :
    qAll c f = bigSep Finset.univ fun s : Fin 16 => slotQ c s fullShare f := by
  unfold qAll slotQ
  rw [← cover_wqR, pointsTo_biUnion Finset.univ _ fun s _ s' _ h => disj_wqR h]
  exact bigSep_congr fun s _ => by rw [set_wqSlot]
theorem oAll_eq (c : Dev nD) (f : (cc0_scratch1 : Ref sig .tc).ty.Contents (Elt F)) :
    oAll c f = bigSep Finset.univ fun s : Fin 16 => slotO c s fullShare f := by
  unfold oAll slotO
  rw [← cover_woR, pointsTo_biUnion Finset.univ _ fun s _ s' _ h => disj_woR h]
  exact bigSep_congr fun s _ => by rw [set_woSlot]
theorem locAll_eq (w : Bool) (c : Dev nD) (f : S64x2x128x64.Idx → Elt F .f32) :
    locAll w c f = bigSep Finset.univ fun h : Fin 64 => headW w c h f := by
  cases w <;>
  · unfold locAll headW
    dsimp only
    rw [← cover_ktR, pointsTo_biUnion Finset.univ _ fun s _ s' _ h => disj_ktR h]
    exact bigSep_congr fun s _ => by first | rw [set_ktW] | rw [set_vtW]
/-- What the local copies read of an argument, together. -/
def argMid (w : Bool) (c : Dev nD) : sProp 𝕄 :=
  match w with
  | false => kM.view.loc (c : Thread nD τ) ↦[Finset.univ.biUnion fun h => (khR h c).set]{fullShare} D.K c
  | true => vM.view.loc (c : Thread nD τ) ↦[Finset.univ.biUnion fun h => (khR h c).set]{fullShare} D.V c
theorem argMid_eq (w : Bool) (c : Dev nD) : argMid D w c = bigSep Finset.univ fun h : Fin 64 => srcW D w c h := by
  cases w <;>
  · unfold argMid srcW
    dsimp only
    rw [pointsTo_biUnion Finset.univ _ fun s _ s' _ h => disj_khR c h]
    exact bigSep_congr fun s _ => by first | rw [set_kW] | rw [set_vW]
theorem arg_split (w : Bool) (c : Dev nD) : argAll D w c ⊢ iprop((bigSep Finset.univ fun h : Fin 64 => srcW D w c h) ∗ argRest D w c) := by
  rw [← argMid_eq]
  cases w <;> exact (pointsTo_split_subset (Finset.subset_univ _)).1
theorem arg_join (w : Bool) (c : Dev nD) : iprop((bigSep Finset.univ fun h : Fin 64 => srcW D w c h) ∗ argRest D w c) ⊢ argAll D w c := by
  rw [← argMid_eq]
  cases w <;> exact (pointsTo_split_subset (Finset.subset_univ _)).2

/-- Slot `s` of both ring buffers, at any contents. -/
def free (c : Dev nD) (s : Fin 16) : sProp 𝕄 := iprop((∃ f, slotQ (F := F) c s fullShare f) ∗ (∃ f, slotO (F := F) c s fullShare f))

/-- Slot 0, then the slots the lanes fill, lane by lane. -/
def allS : List (Fin 16) := 0 :: (dir 0 ++ dir 1).map dstS

theorem free_allS (c : Dev nD) : listSep (free (F := F) c) allS
    ⊢ iprop(free c 0 ∗ listSep (fun i => free (F := F) c (dstS i)) (dir 0) ∗ listSep (fun i => free (F := F) c (dstS i)) (dir 1)) := by
  unfold allS
  rw [listSep_cons, listSep_map]
  iintro ⟨H0, H⟩
  isplitl [H0]; · iexact H0
  iapply (listSep_split (fun i => free (F := F) c (dstS i)) (dir 0) (dir 1)); iexact H

theorem ring_split (c : Dev nD) (f g) : iprop(qAll (F := F) c f ∗ oAll c g)
    ⊢ iprop(free c 0 ∗ listSep (fun i => free (F := F) c (dstS i)) (dir 0) ∗ listSep (fun i => free (F := F) c (dstS i)) (dir 1)) := by
  have e (φ : Fin 16 → sProp 𝕄) : bigSep Finset.univ φ = listSep φ allS := (listSep_univ φ allS (by decide) (by decide)).symm
  rw [qAll_eq, oAll_eq, e, e]
  iintro H
  ihave H := (listSep_sep (fun s => slotQ c s fullShare f) (fun s => slotO c s fullShare g) allS) $$ H
  ihave H := (listSep_mono iprop(emp) (fun s => iprop(slotQ c s fullShare f ∗ slotO c s fullShare g)) (free (F := F) c) allS (fun s _ => by
    unfold free
    iintro ⟨-, H1, H2⟩
    isplitl [H1]; · iexists f; iexact H1
    iexists g; iexact H2)) $$ [H]
  · isplitr; · iempintro
    iexact H
  iapply (free_allS c); iexact H

theorem ring_join (c : Dev nD) :
    listSep (fun s => slot D c s fullShare) (8 :: 9 :: 7 :: heldL 7) ⊢ iprop(qAll c (ringQ D.Wq c) ∗ oAll c (ringO D.Wo c)) := by
  rw [listSep_univ _ (8 :: 9 :: 7 :: heldL 7) (by decide) (by decide), qAll_eq, oAll_eq, ← bigSep_sep']
  exact BI.Entails.refl _

theorem copied_join (w : Bool) (c : Dev nD) :
    iprop(copied D w c ∗ argRest D w c) ⊢ iprop(locAll w c (headsK (heldArg D w c) c) ∗ argAll D w c ∗ semVal (cellAt c (loc w)) 0) := by
  unfold copied
  rw [locAll_eq, show (fun d => pay D c d (loc w)) = fun d => iprop(headW w c d (headsK (heldArg D w c) c) ∗ srcW D w c d) from rfl, bigSep_sep']
  iintro ⟨⟨⟨H1, H2⟩, H3⟩, H4⟩
  isplitl [H1]; · iexact H1
  isplitl [H2 H4]
  · iapply (arg_join D w c); isplitl [H2] <;> iassumption
  iexact H3

theorem item_intro (w : Bool) (c : Dev nD) (h : Fin 64) (f : S64x2x128x64.Idx → Elt F .f32) :
    iprop(headW w c h f ∗ srcW D w c h ∗ dutyTok ER (cellAt c (loc w)) 0 h) ⊢ item D w c h := by
  unfold item
  iintro ⟨H1, H2, H3⟩
  isplitl [H1]; · iexists f; iexact H1
  isplitl [H2] <;> iassumption

/-- The copies' needs, from the buffer, the argument and the tokens. -/
theorem items_intro (w : Bool) (c : Dev nD) (f : S64x2x128x64.Idx → Elt F .f32) :
    iprop(locAll w c f ∗ argAll D w c ∗ bigSep Finset.univ fun h : Fin 64 => dutyTok ER (cellAt c (loc w)) 0 h)
      ⊢ iprop(listSep (item D w c) heads ∗ argRest D w c) := by
  rw [locAll_eq, listSep_univ (item D w c) heads (by decide) (by decide)]
  iintro ⟨H1, H2, H3⟩
  ihave H2 := (arg_split D w c) $$ H2
  icases H2 with ⟨H2, H4⟩
  isplitr [H4]
  · ihave H := (show iprop((bigSep Finset.univ fun h : Fin 64 => headW w c h f) ∗ (bigSep Finset.univ fun h : Fin 64 => srcW D w c h)
        ∗ bigSep Finset.univ fun h : Fin 64 => (dutyTok ER (cellAt c (loc w)) 0 h : sProp 𝕄)) ⊢ bigSep Finset.univ (item D w c) from by
      rw [← bigSep_sep', ← bigSep_sep']
      exact bigSep_mono fun h _ => item_intro D w c h f) $$ [H1 H2 H3]
    · isplitl [H1]; · iexact H1
      isplitl [H2] <;> iassumption
    iexact H
  iexact H4

end Cert.KernelIdeal.Attn

end
-- ==== Proof.KernelIdeal.Body.lean ====
/-
# The body of one device

The neighbours meet, the local copies start, slot 0 is filled, the copies are awaited and the ring runs: what a device
starts from and what it ends with.
-/
module

public import proofs.«01_k».proof.Proof.KernelIdeal.Parts

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F) (K : Dev nD × CB → ℕ)

/-! ## What the body starts from and ends with -/

def xP (c : Dev nD) (X : (cc0_stg0_0 : Ref sig .tc).ty.Contents (Elt F)) : sProp 𝕄 := xM.view.loc (c : Thread nD τ) ↦[Finset.univ]{fullShare} X
def wqP (c : Dev nD) (X : (cc0_stg1_0 : Ref sig .tc).ty.Contents (Elt F)) : sProp 𝕄 := wqM.view.loc (c : Thread nD τ) ↦[Finset.univ]{fullShare} X
def woP (c : Dev nD) (X : (cc0_stg2_0 : Ref sig .tc).ty.Contents (Elt F)) : sProp 𝕄 := woM.view.loc (c : Thread nD τ) ↦[Finset.univ]{fullShare} X

/-- The tokens of the local copies of one argument. -/
def ctok (w : Bool) (c : Dev nD) : sProp 𝕄 := bigSep Finset.univ fun h : Fin 64 => dutyTok ER (cellAt c (loc w)) 0 h
/-- The tokens a device pays with and its positions at its own cells. -/
def kit (c : Dev nD) : sProp 𝕄 :=
  iprop((dutyTok ER (barCell (leftB c)) 0 0 ∗ dutyTok ER (barCell (rightB c)) 0 1) ∗ listSep (ltok c) order ∗ (ctok false c ∗ ctok true c)
    ∗ atPos ER (barCell c) 0 ∅ 0 ∗ listSep (lpos c) order ∗ (atPos ER (cellAt c (loc false)) 0 ∅ 0 ∗ atPos ER (cellAt c (loc true)) 0 ∅ 0))
/-- The credit it waits with. -/
def creds (c : Dev nD) : sProp 𝕄 := iprop(cred (tallyAt (barCell c) () 2) ∗ listSep (lcred c) order)
/-- Its own buffers, at any contents. -/
def hold (c : Dev nD) : sProp 𝕄 :=
  iprop((∃ f, qAll (F := F) c f) ∗ (∃ f, oAll (F := F) c f) ∗ (∃ f, locAll (F := F) false c f) ∗ (∃ f, locAll (F := F) true c f) ∗ ∃ a, accP c a)
def args (c : Dev nD) : sProp 𝕄 := iprop(argAll D false c ∗ argAll D true c)
/-- Its own cells, closed. -/
def zeros (c : Dev nD) : sProp 𝕄 :=
  iprop(semVal (barCell c) 0 ∗ listSep (ldone c) (cwI 7 :: doneL 7) ∗ semVal (cellAt c (loc false)) 0 ∗ semVal (cellAt c (loc true)) 0)

/-! ## The neighbours' handshake -/

theorem toD_left (c : Dev nD) : ∀ i ∈ dir 0, toD (leftB c) i = c := by
  have h : ∀ i ∈ dir 0, i.val < 8 := by decide
  intro i hi
  apply Fin.ext
  rw [toD_val, if_pos (h i hi), leftB_val]
  have : c.val < 16 := c.isLt
  omega
theorem toD_right (c : Dev nD) : ∀ i ∈ dir 1, toD (rightB c) i = c := by
  have h : ∀ i ∈ dir 1, ¬ i.val < 8 := by decide
  intro i hi
  apply Fin.ext
  rw [toD_val, if_neg (h i hi), rightB_val]
  have : c.val < 16 := c.isLt
  omega

/-- Free slots are what the lanes that fill them need. -/
theorem lands (c : Dev nD) (l : List Lane) : iprop(Recs D K ∗ listSep (fun i => free (F := F) c (dstS i)) l) ⊢ listSep (fun i => land i c) l :=
  listSep_mono (Recs D K) _ _ l fun i _ => by
    unfold free land
    iintro ⟨#HR, H1, H2⟩
    isplitl [H1]; · iexact H1
    isplitl [H2]; · iexact H2
    isplitr
    · iapply (recs_reached D K c (rcv false i)); iexact HR
    · iapply (recs_reached D K c (rcv true i)); iexact HR

theorem pay_left (c : Dev nD) : (listSep (fun i => land i c) (dir 0) : sProp 𝕄) = (Rd D).payload (barCell (leftB c)) 0 0 := by
  rw [payload_bar]; unfold barPay
  exact listSep_congr _ _ _ fun i hi => by rw [toD_left c i hi]
theorem pay_right (c : Dev nD) : (listSep (fun i => land i c) (dir 1) : sProp 𝕄) = (Rd D).payload (barCell (rightB c)) 0 1 := by
  rw [payload_bar]; unfold barPay
  exact listSep_congr _ _ _ fun i hi => by rw [toD_right c i hi]

theorem rest_bar (c : Dev nD) : bigSep ((Rd D).duties (barCell c) 0 \ ∅) (fun d => (Rd D).payload (barCell c) 0 d)
    = iprop(barPay (F := F) c 0 ∗ barPay c 1) := by
  rw [Finset.sdiff_empty, duties_bar, bigSep_insert (by decide), bigSep_singleton, payload_bar, payload_bar]
  rfl

/-- The lanes in sending order, from the two directions'. -/
theorem lands_order (c : Dev nD) : iprop(barPay (F := F) c 0 ∗ barPay c 1) ⊢ listSep (fun i => land i (toD c i)) order := by
  unfold barPay
  rw [listSep_univ _ order (by decide) (by decide), ← listSep_univ _ (dir 0 ++ dir 1) (by decide) (by decide)]
  exact listSep_append _ _ _

theorem todo_intro (c : Dev nD) : iprop(listSep (ltok c) order ∗ listSep (fun i => land (F := F) i (toD c i)) order ∗ listSep (lcred c) order ∗ listSep (lpos c) order)
    ⊢ listSep (todo c) order := by
  iintro ⟨H1, H2, H3, H4⟩
  ihave H := (listSep_sep (lcred c) (lpos c) order) $$ [H3 H4]
  · isplitl [H3] <;> iassumption
  ihave H := (listSep_sep (fun i => land i (toD c i)) (fun i => iprop(lcred c i ∗ lpos c i)) order) $$ [H2 H]
  · isplitl [H2] <;> iassumption
  iapply (listSep_sep (ltok c) (fun i => iprop(land i (toD c i) ∗ lcred c i ∗ lpos c i)) order)
  isplitl [H1] <;> iassumption

/-- Signalling both neighbours and awaiting both: what they hand over is every lane's landing place. -/
theorem wp_meet (c : Dev nD) (k : PF F) (Q : PUnit → sProp 𝕄) :
    iprop((Recs D K ∗ levAts L lv) ∗ (dutyTok ER (barCell (leftB c)) 0 0 ∗ dutyTok ER (barCell (rightB c)) 0 1)
        ∗ atPos ER (barCell c) 0 ∅ 0 ∗ cred (tallyAt (barCell c) () 2) ∗ ow c (O₀ c)
        ∗ listSep (fun i => free (F := F) c (dstS i)) (dir 0) ∗ listSep (fun i => free (F := F) c (dstS i)) (dir 1))
      ⊢ iprop(((listSep (fun i => land i (toD c i)) order ∗ ow c (lanesO c order) ∗ semVal (barCell c) 0) -∗ WP c k Q)
        -∗ WP c (.op (.semSignal (Dev.tc (leftB c)) barS (1#32 : BitVec 32).toInt) fun _ =>
          .op (.semSignal (Dev.tc (rightB c)) barS (1#32 : BitVec 32).toInt) fun _ =>
          .op (.semWait barS (2#32 : BitVec 32).toInt) fun _ => k) Q) := by
  unfold ow O₀
  iintro ⟨⟨#HR, #HL⟩, ⟨Ht1, Ht2⟩, Hat, Hc, ⟨%W, HO⟩, Hf1, Hf2⟩ Hk
  ihave Hf1 := (lands D K c (dir 0)) $$ [Hf1]
  · isplitr; · iexact HR
    iexact Hf1
  ihave Hf2 := (lands D K c (dir 1)) $$ [Hf2]
  · isplitr; · iexact HR
    iexact Hf2
  iapply (Rounds.wp_signal 𝒱₀ ER (Rd D) (c : Thread nD τ) none (dst := (leftB c : Thread nD τ)) (κ := K (leftB c, .inl ()))
      (d := 0) (by rw [duties_bar]; decide) ((amount_bar D (leftB c) 0).trans (by decide)) ()
      (lanesO c order + tallyAt (barCell (rightB c)) () 1) rfl) $$ [HO Ht1 Hf1]
  · isplitr; · iapply (recs_bar D K (leftB c)); iexact HR
    isplitl [HO]; · iexact HO
    isplitl [Ht1]; · iexact Ht1
    isplitl [Hf1]; · iapply (Entails.of_eq (pay_left D c)); iexact Hf1
    iapply (recs_reached_bar D K (leftB c)); iexact HR
  iintro HO
  iapply (Rounds.wp_signal 𝒱₀ ER (Rd D) (c : Thread nD τ) none (dst := (rightB c : Thread nD τ)) (κ := K (rightB c, .inl ()))
      (d := 1) (by rw [duties_bar]; decide) ((amount_bar D (rightB c) 1).trans (by decide)) ()
      (lanesO c order) rfl) $$ [HO Ht2 Hf2]
  · isplitr; · iapply (recs_bar D K (rightB c)); iexact HR
    isplitl [HO]; · iexact HO
    isplitl [Ht2]; · iexact Ht2
    isplitl [Hf2]; · iapply (Entails.of_eq (pay_right D c)); iexact Hf2
    iapply (recs_reached_bar D K (rightB c)); iexact HR
  iintro HO
  iapply (Rounds.wp_wait_rest_token 𝒱₀ ER (Rd D) (c : Thread nD τ) none (κ := K (c, .inl ()))
      (wpE_semWait_eq 𝒱₀ (c : Thread nD τ) none Set.univ) (Set.mem_univ _) () (O := lanesO c order) (W := W) (R := 0) (m := 0) (T := ∅)
      (by rw [expect_bar]; decide)) $$ [Hc HO Hat]
  · isplitr; · iapply (recs_bar D K c); iexact HR
    isplitl [Hc]; · iexact Hc
    isplitl [HO]; · iexact HO
    isplitr; · iapply (mayWait_lanes c (.reg barS) order 1 (by rw [lv_bar]) (fun i _ => by omega)); iexact HL
    iexact Hat
  iintro ⟨HO, Hat, -, Hpay⟩
  ihave Hp := (Entails.of_eq (rest_bar D c)) $$ Hpay
  ihave Hp := (lands_order c) $$ Hp
  imod (Rounds.cell_close ER (Rd D) (Set.mem_univ (K (c, .inl ()))) (fun h => h) (R := 0 + 1) (duties_later D (barCell c))) $$ [Hat] with Hz
  · isplitr; · iapply (recs_bar D K c); iexact HR
    iexact Hat
  iapply Hk
  isplitl [Hp]; · iexact Hp
  isplitl [HO]; · iexists _; iexact HO
  iexact Hz

/-! ## Filling slot 0 -/

theorem sub_wo' (r : Fin 16) : woB.view.setOn (woR r).toLoadRect.set ⊆ (woSlot r).view.set := by
  rw [set_woSlot]
  intro x hx
  obtain ⟨y, hy, rfl⟩ := Finset.mem_map.mp hx
  exact hy

theorem bufs_intro (c : Dev nD) : iprop(locAll false c (headsK (D.K c) c) ∗ locAll true c (headsK (D.V c) c)) ⊢ bufs D c := BI.Entails.refl _
theorem bufs_elim (c : Dev nD) : bufs D c ⊢ iprop(locAll false c (headsK (D.K c) c) ∗ locAll true c (headsK (D.V c) c)) := BI.Entails.refl _
/-- The end of the ring, buffer by buffer. -/
theorem end_elim (c : Dev nD) (x : FVec F S256x512 .f32) : StEnd D c x
    ⊢ iprop((locAll false c (headsK (D.K c) c) ∗ locAll true c (headsK (D.V c) c)) ∗ accP c (accEnd D c x) ∗ outP c (k0_pay178 (accEnd D c x))
      ∗ ow c 0 ∗ listSep (ldone c) (cwI 7 :: doneL 7) ∗ qAll c (ringQ D.Wq c) ∗ oAll c (ringO D.Wo c)) := by
  unfold StEnd
  iintro ⟨Hb, Ha, Hout, HO, Hd, Hs⟩
  ihave Hs := (ring_join D c) $$ Hs
  isplitl [Hb]; · iapply (bufs_elim D c); iexact Hb
  isplitl [Ha]; · iexact Ha
  isplitl [Hout]; · iexact Hout
  isplitl [HO]; · iexact HO
  isplitl [Hd]; · iexact Hd
  iexact Hs

theorem off_wq : (![0, 0] : Fin 2 → Nat) = fun _ => 0 := off_acc

theorem set_accQ : (wqB.access (wqR 0)).set = (wqR 0).set := View.set_slice_whole _ _
theorem set_accO : (woB.access (woR 0)).set = (woR 0).set := View.set_slice_whole _ _

theorem stored_Q (c : Dev nD) (f : (cc0_scratch0 : Ref sig .tc).ty.Contents (Elt F)) (wq : (cc0_stg1_0 : Ref sig .tc).ty.Contents (Elt F))
    (hq : D.Wq c = k0_pay1 wq) :
    ((wqB.access (wqR 0)).loc (c : Thread nD τ) ↦[(wqSlot 0).view.set]{fullShare}
      ((wqB.access (wqR 0) : View sig .tc _ _ _).write (Elt F) f (k0_pay1 wq) Finset.univ) : sProp 𝕄) = fullQ D c 0 fullShare :=
  pointsTo_congr fun i hi => write_agree (wqB.access (wqR 0)) f (ringQ D.Wq c) (k0_pay1 wq) ((own_Q D.Wq c).trans hq) i (by
    rw [set_wqSlot] at hi; rw [set_accQ]; exact hi)
theorem stored_O (c : Dev nD) (f : (cc0_scratch1 : Ref sig .tc).ty.Contents (Elt F)) (wo : (cc0_stg2_0 : Ref sig .tc).ty.Contents (Elt F))
    (ho : D.Wo c = k0_pay2 wo) :
    ((woB.access (woR 0)).loc (c : Thread nD τ) ↦[(woSlot 0).view.set]{fullShare}
      ((woB.access (woR 0) : View sig .tc _ _ _).write (Elt F) f (k0_pay2 wo) Finset.univ) : sProp 𝕄) = fullO D c 0 fullShare :=
  pointsTo_congr fun i hi => write_agree (woB.access (woR 0)) f (ringO D.Wo c) (k0_pay2 wo) ((own_O D.Wo c).trans ho) i (by
    rw [set_woSlot] at hi; rw [set_accO]; exact hi)
theorem sub_stQ : (wqB.access (wqR 0)).setOn Finset.univ ⊆ (wqSlot 0).view.set := by
  rw [set_wqSlot, View.setOn_univ, set_accQ]
theorem sub_stO : (woB.access (woR 0)).setOn Finset.univ ⊆ (woSlot 0).view.set := by
  rw [set_woSlot, View.setOn_univ, set_accO]

theorem wp_fill (c : Dev nD) (wq : (cc0_stg1_0 : Ref sig .tc).ty.Contents (Elt F)) (wo : (cc0_stg2_0 : Ref sig .tc).ty.Contents (Elt F))
    (hq : D.Wq c = k0_pay1 wq) (ho : D.Wo c = k0_pay2 wo) (k : PF F) (Q : PUnit → sProp 𝕄) :
    iprop(free (F := F) c 0 ∗ wqP c wq ∗ woP c wo)
      ⊢ iprop(((slot D c 0 fullShare ∗ wqP c wq ∗ woP c wo) -∗ WP c k Q) -∗ WP c (fill k) Q) := by
  unfold free wqP woP slotQ slotO
  iintro ⟨⟨⟨%f, Hq⟩, ⟨%g, Ho⟩⟩, Hwq, Hwo⟩ Hk
  iapply (wp_load 𝒱₀ (c : Thread nD τ) none Set.univ (m := wqM) (Finset.subset_univ _)) $$ Hwq
  rw [show wqM.view.readAt (Elt F) (Rect.unit (s := S512x256) ![0, 0] S512x256.size inb_S512x256_S512x256_0_0).toLoadRect wq = wq from
    Memref.readAt_unit_zero (Elt F) cc0_stg1_0 off_wq _ wq]
  iintro Hwq
  iapply (wp_load 𝒱₀ (c : Thread nD τ) none Set.univ (m := wqB) (S := (wqSlot 0).view.set) (sub_wq 0)) $$ Hq
  iintro Hq
  iapply (wp_store 𝒱₀ (c : Thread nD τ) none Set.univ (m := wqB) (r := wqR 0) (Mk := Finset.univ) (S := (wqSlot 0).view.set) sub_stQ) $$ Hq
  iintro Hq
  iapply (wp_load 𝒱₀ (c : Thread nD τ) none Set.univ (m := woM) (Finset.subset_univ _)) $$ Hwo
  rw [show woM.view.readAt (Elt F) (Rect.unit (s := S256x512) ![0, 0] S256x512.size inb_S256x512_S256x512_0_0).toLoadRect wo = wo from
    Memref.readAt_unit_zero (Elt F) cc0_stg2_0 off_wq _ wo]
  iintro Hwo
  iapply (wp_load 𝒱₀ (c : Thread nD τ) none Set.univ (m := woB) (S := (woSlot 0).view.set) (sub_wo' 0)) $$ Ho
  iintro Ho
  iapply (wp_store 𝒱₀ (c : Thread nD τ) none Set.univ (m := woB) (r := woR 0) (Mk := Finset.univ) (S := (woSlot 0).view.set) sub_stO) $$ Ho
  iintro Ho
  ihave Hq := (Entails.of_eq (stored_Q D c f wq hq)) $$ Hq
  ihave Ho := (Entails.of_eq (stored_O D c g wo ho)) $$ Ho
  iapply Hk
  isplitl [Hq Ho]
  · unfold slot; isplitl [Hq] <;> iassumption
  isplitl [Hwq] <;> iassumption

/-! ## The whole body -/

theorem wp_end (c : Dev nD) (Q : PUnit → sProp 𝕄) : Q ⟨⟩ ⊢ WP (F := F) c (.ret ⟨⟩) Q := fupd_intro

theorem wp_bodyP (c : Dev nD) (X : (cc0_stg0_0 : Ref sig .tc).ty.Contents (Elt F)) (wq : (cc0_stg1_0 : Ref sig .tc).ty.Contents (Elt F))
    (wo : (cc0_stg2_0 : Ref sig .tc).ty.Contents (Elt F)) (f : (cc0_stg3_0 : Ref sig .tc).ty.Contents (Elt F))
    (hq : D.Wq c = k0_pay1 wq) (ho : D.Wo c = k0_pay2 wo) (Q : PUnit → sProp 𝕄) :
    iprop((Recs D K ∗ levAts L lv) ∗ kit (F := F) c ∗ creds (F := F) c ∗ hold (F := F) c ∗ args D c ∗ ow c (O₀ c) ∗ xP c X ∗ wqP c wq ∗ woP c wo ∗ outP c f)
      ⊢ iprop(((hold (F := F) c ∗ args D c ∗ zeros (F := F) c ∗ ow c 0 ∗ xP c X ∗ wqP c wq ∗ woP c wo ∗ outP c (k0_pay178 (accEnd D c (k0_pay3 X)))) -∗ Q ⟨⟩)
        -∗ WP c bodyP Q) := by
  unfold bodyP kit creds hold args zeros xP ctok
  iintro ⟨#HP, ⟨Htb, Hlt, ⟨Hct1, Hct2⟩, Hab, Hlp, Hal⟩, ⟨Hcb, Hlc⟩, ⟨⟨%fq, Hq⟩, ⟨%fo, Ho⟩, ⟨%fk, Hkt⟩, ⟨%fv, Hvt⟩, %a, Hacc⟩, ⟨Hk, Hv⟩, HO, Hx, Hwq, Hwo, Hout⟩ Hend
  ihave Hring := (ring_split c fq fo) $$ [Hq Ho]
  · isplitl [Hq] <;> iassumption
  icases Hring with ⟨Hs0, Hf1, Hf2⟩
  iapply (Entails.of_eq (wp_deviceId 𝒱₀ (c : Thread nD τ) none Set.univ (defs := defs₀ (F := F)) (Γ := .empty) (Q := Q)).symm)
  iapply (wp_meet D K c _ Q) $$ [Htb Hab Hcb HO Hf1 Hf2]
  · isplitr; · iexact HP
    isplitl [Htb]; · iexact Htb
    isplitl [Hab]; · iexact Hab
    isplitl [Hcb]; · iexact Hcb
    isplitl [HO]; · iexact HO
    isplitl [Hf1] <;> iassumption
  iintro ⟨Hland, HO, Hzb⟩
  ihave H1 := (items_intro D false c fk) $$ [Hkt Hk Hct1]
  · isplitl [Hkt]; · iexact Hkt
    isplitl [Hk] <;> iassumption
  ihave H2 := (items_intro D true c fv) $$ [Hvt Hv Hct2]
  · isplitl [Hvt]; · iexact Hvt
    isplitl [Hv] <;> iassumption
  icases H1 with ⟨Hi1, Hr1⟩
  icases H2 with ⟨Hi2, Hr2⟩
  icases HP with ⟨#HR, #HL⟩
  iapply (wp_copies D K c _ Q) $$ [Hi1 Hi2]
  · isplitr; · iexact HR
    isplitl [Hi1] <;> iassumption
  iintro Hcop
  iapply (wp_fill D c wq wo hq ho _ Q) $$ [Hs0 Hwq Hwo]
  · isplitl [Hs0]; · iexact Hs0
    isplitl [Hwq] <;> iassumption
  iintro ⟨Hs0, Hwq, Hwo⟩
  iapply (wp_waits D K c _ Q) $$ [Hal Hcop HO]
  · isplitr; · isplitr <;> iassumption
    isplitl [Hal]; · iexact Hal
    isplitl [Hcop] <;> iassumption
  iintro ⟨H1, H2, HO⟩
  ihave H1 := (copied_join D false c) $$ [H1 Hr1]
  · isplitl [H1] <;> iassumption
  ihave H2 := (copied_join D true c) $$ [H2 Hr2]
  · isplitl [H2] <;> iassumption
  icases H1 with ⟨Hkt, Hk, Hz1⟩
  icases H2 with ⟨Hvt, Hv, Hz2⟩
  ihave Htodo := (todo_intro c) $$ [Hlt Hland Hlc Hlp]
  · isplitl [Hlt]; · iexact Hlt
    isplitl [Hland]; · iexact Hland
    isplitl [Hlc] <;> iassumption
  iapply (wp_load 𝒱₀ (c : Thread nD τ) none Set.univ (m := xM) (Finset.subset_univ _)) $$ Hx
  rw [show xM.view.readAt (Elt F) (Rect.unit (s := S2x128x512) ![0, 0, 0] S2x128x512.size inb_S2x128x512_S2x128x512_0_0_0).toLoadRect X = X from
    Memref.readAt_unit_zero (Elt F) cc0_stg0_0 off_out _ X]
  iintro Hx
  iapply (wp_ring D K c (k0_pay3 X) a f _ Q) $$ [Hkt Hvt Hacc Htodo HO Hs0 Hout]
  · isplitr; · isplitr <;> iassumption
    isplitl [Hkt Hvt]
    · iapply (bufs_intro D c); isplitl [Hkt]; · iexact Hkt
      iexact Hvt
    isplitl [Hacc]; · iexact Hacc
    isplitl [Htodo]; · iexact Htodo
    isplitl [HO]; · iexact HO
    isplitl [Hs0]; · iexact Hs0
    iexact Hout
  iintro HE
  ihave HE := (end_elim D c (k0_pay3 X)) $$ HE
  icases HE with ⟨⟨Hkt, Hvt⟩, Hacc, Hout, HO, Hd, Hq, Ho⟩
  iapply (wp_end c Q)
  iapply Hend
  isplitl [Hkt Hvt Hacc Hq Ho]
  · isplitl [Hq]; · iexists _; iexact Hq
    isplitl [Ho]; · iexists _; iexact Ho
    isplitl [Hkt]; · iexists _; iexact Hkt
    isplitl [Hvt]; · iexists _; iexact Hvt
    iexists _; iexact Hacc
  isplitl [Hk Hv]; · isplitl [Hk] <;> iassumption
  isplitl [Hzb Hd Hz1 Hz2]
  · isplitl [Hzb]; · iexact Hzb
    isplitl [Hd]; · iexact Hd
    isplitl [Hz1] <;> iassumption
  isplitl [HO]; · iexact HO
  isplitl [Hx]; · iexact Hx
  isplitl [Hwq]; · iexact Hwq
  isplitl [Hwo] <;> iassumption

end Cert.KernelIdeal.Attn

end
-- ==== Proof.KernelIdeal.Point.lean ====
/-
# The one grid point

The windows' contents before and after the body, and the library's body obligation.
-/
module

public import proofs.«01_k».proof.Proof.KernelIdeal.Body
public import proofs.«01_k».proof.Proof.Gen.KernelIdeal.Frame

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ UU ℕ

variable (D : Data F) (K : Dev nD × CB → ℕ)

section Point

variable (m : (ℓ : Loc nD τ sig) → Buf (Elt F) ℓ) (ρ : Dev nD → PrngReg)

/-- Device `c`'s blocks of `x` and of the two weights, as staged. -/
def inX (c : Dev nD) : (cc0_stg0_0 : Ref sig .tc).ty.Contents (Elt F) := iblk m c 0 t0_0
def inQ (c : Dev nD) : (cc0_stg1_0 : Ref sig .tc).ty.Contents (Elt F) := iblk m c 1 t0_0
def inO (c : Dev nD) : (cc0_stg2_0 : Ref sig .tc).ty.Contents (Elt F) := iblk m c 2 t0_0

/-- What the kernel is launched on: the staged shards of the weights, and the two replicated arguments. -/
def DD : Data F where
  Wq c := k0_pay1 (inQ m c)
  Wo c := k0_pay2 (inO m c)
  K c := m ((c : Thread nD τ).loc main_arg2)
  V c := m ((c : Thread nD τ).loc main_arg3)

theorem DD_Wq (c : Dev nD) : (DD m).Wq c = k0_pay1 (inQ m c) := rfl
theorem DD_Wo (c : Dev nD) : (DD m).Wo c = k0_pay2 (inO m c) := rfl

/-- What device `c` leaves in its block of the result. -/
def outAt (c : Dev nD) : (cc0_stg3_0 : Ref sig .tc).ty.Contents (Elt F) := k0_pay178 (accEnd (DD m) c (k0_pay3 (inX m c)))

/-- What the launch deals a device beside its own scratch buffers. -/
def start (c : Dev nD) : sProp 𝕄 :=
  iprop(((∃ K, Recs (DD m) K) ∗ levAts L lv) ∗ kit (F := F) c ∗ creds (F := F) c ∗ args (DD m) c)
def Φ₀ (c : Dev nD) : sProp 𝕄 := iprop(start m c ∗ hold (F := F) c)
def Φ₁ (c : Dev nD) : sProp 𝕄 := iprop(hold (F := F) c ∗ args (DD m) c ∗ zeros (F := F) c)

def dats (_ : Fin 1) (c : Dev nD) : Dat τ (Elt F) Unit ℕ UU ℕ cfg0 c where
  A w := m ((cfg0.win w).arr.view.loc (c : Thread nD τ))
  after w _ := match w with
    | ⟨0, _⟩ => inX m c
    | ⟨1, _⟩ => inQ m c
    | ⟨2, _⟩ => inO m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
def bodyPost (c : Dev nD) : sProp 𝕄 :=
  iprop(Φ₁ m c ∗ (dats m 0 c).owesAt () t0_0.succ
    ∗ stg c cc0_stg0_0 (inX m c) ∗ stg c cc0_stg1_0 (inQ m c) ∗ stg c cc0_stg2_0 (inO m c) ∗ stg c cc0_stg3_0 (outAt m c))

theorem before_0 (c : Dev nD) (d) : (dats m 0 c).before (0 : Fin 4) t0_0 d = inX m c := by
  unfold Dat.before; rw [if_pos (fetch0_0 t0_0)]; rfl
theorem before_1 (c : Dev nD) (d) : (dats m 0 c).before (1 : Fin 4) t0_0 d = inQ m c := by
  unfold Dat.before; rw [if_pos (fetch0_1 t0_0)]; rfl
theorem before_2 (c : Dev nD) (d) : (dats m 0 c).before (2 : Fin 4) t0_0 d = inO m c := by
  unfold Dat.before; rw [if_pos (fetch0_2 t0_0)]; rfl

theorem owes_in (c : Dev nD) : (dats m 0 c).owesAt () t0_0.castSucc ⊢ ow (F := F) c (O₀ c) := by
  unfold Dat.owesAt Pipeline.owesWithin ow
  iintro ⟨%W, %hW, HO⟩
  iexists W; iexact HO
theorem owes_out (c : Dev nD) : ow (F := F) c 0 ⊢ (dats m 0 c).owesAt () t0_0.succ := by
  unfold Dat.owesAt Pipeline.owesWithin ow
  iintro ⟨%W, HO⟩
  iexists W
  isplitr; · ipureintro; exact fun _ _ => Or.inl trivial
  iexact HO

theorem pre_elim (c : Dev nD) : bodyPre m c
    ⊢ iprop(∃ K, ∃ f, (Recs (DD m) K ∗ levAts L lv) ∗ kit (F := F) c ∗ creds (F := F) c ∗ hold (F := F) c ∗ args (DD m) c ∗ ow c (O₀ c)
      ∗ xP c (inX m c) ∗ wqP c (inQ m c) ∗ woP c (inO m c) ∗ outP c f) := by
  unfold bodyPre Φ₀ start
  simp only [before_0, before_1, before_2]
  iintro ⟨⟨⟨⟨⟨%K, HR⟩, HL⟩, Hkit, Hcr, Hargs⟩, Hh⟩, HO, ⟨%d0, %g0, %h0, Hx⟩, ⟨%d1, %g1, %h1, Hwq⟩, ⟨%d2, %g2, %h2, Hwo⟩, ⟨%d3, %g3, %h3, Hout⟩⟩
  subst h0; subst h1; subst h2
  iexists K; iexists g3
  isplitl [HR HL]; · isplitl [HR] <;> iassumption
  isplitl [Hkit]; · iexact Hkit
  isplitl [Hcr]; · iexact Hcr
  isplitl [Hh]; · iexact Hh
  isplitl [Hargs]; · iexact Hargs
  isplitl [HO]; · iapply (owes_in m c); iexact HO
  isplitl [Hx]; · unfold xP; iexact Hx
  isplitl [Hwq]; · unfold wqP; iexact Hwq
  isplitl [Hwo]; · unfold woP; iexact Hwo
  unfold outP; iexact Hout

theorem post_intro (c : Dev nD) : iprop(hold (F := F) c ∗ args (DD m) c ∗ zeros (F := F) c ∗ ow c 0
      ∗ xP c (inX m c) ∗ wqP c (inQ m c) ∗ woP c (inO m c) ∗ outP c (outAt m c)) ⊢ bodyPost m c := by
  unfold bodyPost Φ₁ xP wqP woP outP
  iintro ⟨Hh, Ha, Hz, HO, Hx, Hwq, Hwo, Hout⟩
  isplitl [Hh Ha Hz]
  · isplitl [Hh]; · iexact Hh
    isplitl [Ha] <;> iassumption
  isplitl [HO]; · iapply (owes_out m c); iexact HO
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  iexists _; isplitr; · (ipureintro; rfl)
  iexact Hout

/-- A rule with a continuation, at its own end. -/
theorem close_rule (c : Dev nD) (p : PF F) (Q : PUnit → sProp 𝕄) {P R : sProp 𝕄} (h : P ⊢ iprop((R -∗ Q ⟨⟩) -∗ WP c p Q)) (hR : R ⊢ Q ⟨⟩) : P ⊢ WP c p Q := by
  iintro H
  iapply h $$ H
  iintro H
  iapply hR
  iexact H

theorem sound_at (c : Dev nD) (f : (cc0_stg3_0 : Ref sig .tc).ty.Contents (Elt F)) :
    iprop((Recs (DD m) K ∗ levAts L lv) ∗ kit (F := F) c ∗ creds (F := F) c ∗ hold (F := F) c ∗ args (DD m) c ∗ ow c (O₀ c)
      ∗ xP c (inX m c) ∗ wqP c (inQ m c) ∗ woP c (inO m c) ∗ outP c f) ⊢ WP c bodyP fun _ => bodyPost m c :=
  close_rule c bodyP (fun _ => bodyPost m c)
    (wp_bodyP (DD m) K c (inX m c) (inQ m c) (inO m c) f (DD_Wq m c) (DD_Wo m c) (fun _ => bodyPost m c)) (post_intro m c)

/-- The existential of a premise, over any program. -/
theorem open_pre (c : Dev nD) (p : PF F) (Q : PUnit → sProp 𝕄) {A B : Type} {P : sProp 𝕄} {R : A → B → sProp 𝕄} (hP : P ⊢ iprop(∃ a, ∃ b, R a b))
    (h : ∀ a b, R a b ⊢ WP c p Q) : P ⊢ WP c p Q := by
  iintro H
  ihave H := hP $$ H
  icases H with ⟨%a, %b, H⟩
  iapply (h a b)
  iexact H

theorem sound_body (c : Dev nD) : bodyPre m c ⊢ WP c bodyP fun _ => bodyPost m c :=
  open_pre c bodyP _ (pre_elim m c) fun K f => sound_at K m c f

set_option maxRecDepth 65536 in
/-- The library's obligation for the body of device `c`. -/
theorem body_obligation (c : Dev nD) : BodyObligation (dats (F := F) m 0 c) (defs₀ (F := F)) 𝒱₀ () Set.univ := fun t => by
  rw [fin_N0 t, bigSep_W0, bigSep_W0]
  simp only [owns_whole]
  show bodyPre m c ⊢ wp frame (wpE (defs₀ (F := F)) 𝒱₀ c none) Set.univ (bodyAt0 t0_0) (fun _ => bodyPost m c)
  rw [body_eq]
  exact sound_body m c

end Point

end Cert.KernelIdeal.Attn

end
-- ==== Proof.KernelIdeal.Deal.lean ====
/-
# What the launch deals

The cells' ghost state, minted at launch, is dealt to the devices that use it: each receive cell's token to the device that
fills it, each barrier token to the neighbour that signals it; the credit of every device's own waits comes to it.
-/
module

public import proofs.«01_k».proof.Proof.KernelIdeal.Point

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F) (K : Dev nD × CB → ℕ)

/-! ## Sums over a device's cells -/

theorem bigSep_bool (Φ : Bool → sProp 𝕄) : bigSep Finset.univ Φ = iprop(Φ false ∗ Φ true) :=
  bigSep_univ_eq_bigSepL [false, true] (by decide) (by decide) Φ

theorem bigSep_either {A B : Type} [Fintype A] [Fintype B] (Φ : A ⊕ B → sProp 𝕄) :
    bigSep Finset.univ Φ = iprop(bigSep Finset.univ (fun a => Φ (.inl a)) ∗ bigSep Finset.univ (fun b => Φ (.inr b))) := bigSep_univ_sum Φ

/-- Over all of a device's own cells: lane by lane, then the two of the local copies. -/
theorem bigSep_CI (Φ : CI → sProp 𝕄) (l : List Lane) (hn : l.Nodup) (hm : ∀ i, i ∈ l) :
    bigSep Finset.univ Φ = iprop(listSep (fun i => iprop(Φ (snd false i) ∗ Φ (rcv false i) ∗ Φ (snd true i) ∗ Φ (rcv true i))) l ∗ (Φ (loc false) ∗ Φ (loc true))) := by
  rw [listSep_univ _ l hn hm, bigSep_sep', bigSep_sep', bigSep_sep', bigSep_either, bigSep_either, bigSep_univ_prod, bigSep_univ_prod,
    bigSep_bool, bigSep_bool, bigSep_bool]
  refine BI.Entails.antisymm (show _ ⊢ (_ : sProp 𝕄) from ?_) (show _ ⊢ (_ : sProp 𝕄) from ?_)
  · iintro ⟨⟨H1, H2⟩, ⟨H3, H4⟩, H5⟩
    isplitr [H5]
    · isplitl [H1]; · iexact H1
      isplitl [H3]; · iexact H3
      isplitl [H2] <;> iassumption
    · iexact H5
  · iintro ⟨⟨H1, H3, H2, H4⟩, H5⟩
    isplitl [H1 H2]
    · isplitl [H1] <;> iassumption
    isplitl [H3 H4]
    · isplitl [H3] <;> iassumption
    iexact H5

theorem bigSep_CB (Φ : CB → sProp 𝕄) : bigSep Finset.univ Φ = iprop(Φ (.inl ()) ∗ bigSep Finset.univ fun k : CI => Φ (.inr k)) := by
  rw [bigSep_either, bigSep_univ_eq_bigSepL [()] (by decide) (by decide)]
  rfl

/-! ## The neighbours as permutations -/

def permOf (f : Dev nD → Dev nD) (h : Function.Injective f) : Dev nD ≃ Dev nD := Equiv.ofBijective f (Finite.injective_iff_bijective.mp h)
theorem leftB_injective : Function.Injective leftB := by decide +kernel
theorem rightB_injective : Function.Injective rightB := by decide +kernel
theorem toD_injective (i : Lane) : Function.Injective fun c => toD c i := by
  intro a b h
  have h := congrArg Fin.val h
  simp only [toD_val] at h
  have := a.isLt; have := b.isLt
  have ha : a.val < 16 := a.isLt
  have hb : b.val < 16 := b.isLt
  apply Fin.ext
  by_cases hi : i.val < 8
  · rw [if_pos hi, if_pos hi] at h; omega
  · rw [if_neg hi, if_neg hi] at h; omega

/-- A receive cell of the device a lane fills, for every device and lane. -/
def deal (x : Dev nD × (Bool × Lane)) : Dev nD × (Bool × Lane) := (toD x.1 x.2.2, x.2)
theorem deal_injective : Function.Injective deal := by
  rintro ⟨a, u⟩ ⟨b, v⟩ h
  have h2 : u = v := congrArg Prod.snd h
  subst h2
  have h1 : toD a u.2 = toD b u.2 := congrArg Prod.fst h
  rw [toD_injective u.2 h1]
def dealE : Dev nD × (Bool × Lane) ≃ Dev nD × (Bool × Lane) := Equiv.ofBijective deal (Finite.injective_iff_bijective.mp deal_injective)

/-! ## The cells and their tokens -/

theorem kcell_injective : Function.Injective (kcell : Dev nD × CB → GSem nD τ sig) := by
  rintro ⟨c, k⟩ ⟨c', k'⟩ h
  have h1 : c = c' := congrArg (fun g : GSem nD τ sig => g.1.1) h
  subst h1
  have h2 : sloc k = sloc k' := congrArg Prod.snd h
  rcases k with u | k <;> rcases k' with u' | k'
  · rfl
  · exact absurd h2.symm (osem_ne_reg k' barS)
  · exact absurd h2 (osem_ne_reg k barS)
  · rw [osem_injective h2]
def ringCells : Finset (GSem nD τ sig) := Finset.univ.map ⟨kcell, kcell_injective⟩

/-- The duties of a device's cells: the barrier's two, a lane's at either end, a head's local copies. -/
abbrev TK : Type := Bool ⊕ ((Bool × Lane) ⊕ ((Bool × Lane) ⊕ (Bool × Fin 64)))
def tk : TK → CB × Fin 64
  | .inl b => (.inl (), if b then 1 else 0)
  | .inr (.inl x) => (.inr (.inl x), 0)
  | .inr (.inr (.inl x)) => (.inr (.inr (.inl x)), 0)
  | .inr (.inr (.inr x)) => (.inr (.inr (.inr x.1)), x.2)
def untk : CB × Fin 64 → TK
  | (.inl _, d) => .inl (decide (d = 1))
  | (.inr (.inl x), _) => .inr (.inl x)
  | (.inr (.inr (.inl x)), _) => .inr (.inr (.inl x))
  | (.inr (.inr (.inr w)), d) => .inr (.inr (.inr (w, d)))
theorem untk_tk : Function.LeftInverse untk tk := by
  rintro (b | x | x | x)
  · cases b <;> rfl
  · rfl
  · rfl
  · rfl
theorem tk_injective : Function.Injective tk := untk_tk.injective
def tokOf (x : Dev nD × TK) : GSem nD τ sig × ℕ × Fin 64 := (kcell (x.1, (tk x.2).1), 0, (tk x.2).2)
theorem tokOf_injective : Function.Injective tokOf := by
  rintro ⟨c, t⟩ ⟨c', t'⟩ h
  have h1 := kcell_injective (congrArg Prod.fst h)
  have h2 : (tk t).2 = (tk t').2 := congrArg (fun y : GSem nD τ sig × ℕ × Fin 64 => y.2.2) h
  have h3 : c = c' := congrArg Prod.fst h1
  have h4 : (tk t).1 = (tk t').1 := congrArg Prod.snd h1
  subst h3
  rw [tk_injective (Prod.ext h4 h2)]
def ringToks : Finset (GSem nD τ sig × ℕ × Fin 64) := Finset.univ.map ⟨tokOf, tokOf_injective⟩

def u₀ : UU :=
  (initOf (Pipeline.cells cfgs cellOf_inj) (Pipeline.launchToks cfgs cellOf_inj), initOf ringCells ringToks)

/-- The tokens of device `c`'s own cells, as minted. -/
def toks (c : Dev nD) : sProp 𝕄 :=
  iprop((dutyTok ER (barCell c) 0 0 ∗ dutyTok ER (barCell c) 0 1)
    ∗ (bigSep Finset.univ fun wi : Bool × Lane => dutyTok ER (cellAt c (snd wi.1 wi.2)) 0 0)
    ∗ (bigSep Finset.univ fun wi : Bool × Lane => dutyTok ER (cellAt c (rcv wi.1 wi.2)) 0 0)
    ∗ (ctok (F := F) false c ∗ ctok true c))
/-- The tokens device `c` pays with. -/
def payToks (c : Dev nD) : sProp 𝕄 :=
  iprop((dutyTok ER (barCell (leftB c)) 0 0 ∗ dutyTok ER (barCell (rightB c)) 0 1)
    ∗ (bigSep Finset.univ fun wi : Bool × Lane => dutyTok ER (cellAt c (snd wi.1 wi.2)) 0 0)
    ∗ (bigSep Finset.univ fun wi : Bool × Lane => dutyTok ER (cellAt (toD c wi.2) (rcv wi.1 wi.2)) 0 0)
    ∗ (ctok (F := F) false c ∗ ctok true c))

theorem toks_eq (c : Dev nD) : (bigSep Finset.univ fun t : TK => dutyTok ER (kcell (c, (tk t).1)) 0 (tk t).2) = toks (F := F) c := by
  rw [bigSep_either, bigSep_either, bigSep_either, bigSep_bool]
  unfold toks ctok
  rw [bigSep_univ_prod (fun x : Bool × Fin 64 => (dutyTok ER (kcell (c, (tk (.inr (.inr (.inr x)))).1)) 0 (tk (.inr (.inr (.inr x)))).2 : sProp 𝕄)), bigSep_bool]
  rfl

theorem toks_around : (bigSep Finset.univ fun c : Dev nD => (toks (F := F) c)) ⊢ bigSep Finset.univ fun c : Dev nD => payToks (F := F) c := by
  unfold toks payToks
  rw [bigSep_sep', bigSep_sep', bigSep_sep', bigSep_sep', bigSep_sep', bigSep_sep', bigSep_sep', bigSep_sep', bigSep_sep', bigSep_sep',
    bigSep_univ_equiv (permOf leftB leftB_injective) (fun c : Dev nD => (dutyTok ER (barCell c) 0 0 : sProp 𝕄)),
    bigSep_univ_equiv (permOf rightB rightB_injective) (fun c : Dev nD => (dutyTok ER (barCell c) 0 1 : sProp 𝕄)),
    ← bigSep_univ_prod (fun x : Dev nD × (Bool × Lane) => (dutyTok ER (cellAt x.1 (rcv x.2.1 x.2.2)) 0 0 : sProp 𝕄)),
    bigSep_univ_equiv dealE (fun x : Dev nD × (Bool × Lane) => (dutyTok ER (cellAt x.1 (rcv x.2.1 x.2.2)) 0 0 : sProp 𝕄)),
    bigSep_univ_prod (fun x : Dev nD × (Bool × Lane) => (dutyTok ER (cellAt (dealE x).1 (rcv (dealE x).2.1 (dealE x).2.2)) 0 0 : sProp 𝕄))]
  exact Entails.of_eq (PROP := sProp 𝕄) rfl

/-- The tokens and positions, as the body holds them. -/
theorem kit_intro (c : Dev nD) : iprop((bigSep Finset.univ fun k : CB => atPos ER (kcell (c, k)) 0 ∅ 0) ∗ payToks (F := F) c) ⊢ kit (F := F) c := by
  unfold kit payToks
  rw [bigSep_CB, bigSep_CI _ order (by decide) (by decide), bigSep_univ_prod, bigSep_univ_prod, bigSep_bool, bigSep_bool,
    listSep_univ (ltok c) order (by decide) (by decide), show ltok (F := F) c = fun i => ltok c i from rfl]
  unfold ltok
  rw [bigSep_sep', bigSep_sep', bigSep_sep']
  iintro ⟨⟨Ha, Hl, Hc⟩, Hb, ⟨H1, H3⟩, ⟨H2, H4⟩, Ht⟩
  isplitl [Hb]; · iexact Hb
  isplitl [H1 H2 H3 H4]
  · isplitl [H1]; · iexact H1
    isplitl [H2]; · iexact H2
    isplitl [H3] <;> iassumption
  isplitl [Ht]; · iexact Ht
  isplitl [Ha]; · iexact Ha
  isplitl [Hl]; · iexact Hl
  iexact Hc

/-! ## The launch element -/

/-- What the launch element deals device `c`. -/
def G (c : Dev nD) : sProp 𝕄 :=
  iprop((bigSep Finset.univ fun k : CB => roundState ER (Rd D) (kcell (c, k)) 0)
    ∗ (bigSep Finset.univ fun k : CB => iprop(atPos ER (kcell (c, k)) 0 ∅ 0 ∗ reached ER (kcell (c, k)) 0)) ∗ toks (F := F) c)
/-- What the devices make of it together. -/
def G' (c : Dev nD) : sProp 𝕄 := iprop((∃ K, Recs D K) ∗ kit (F := F) c)

theorem fund_ring : BI.own (ER (initOf ringCells ringToks)) ⊢ (|==> bigSep Finset.univ (G D) : sProp 𝕄) := by
  have hX (Φ : GSem nD τ sig → sProp 𝕄) : bigSep ringCells Φ = bigSep Finset.univ fun c : Dev nD => bigSep Finset.univ fun k : CB => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    exact bigSep_congr fun c _ => by rw [← toks_eq c]; rfl
  iintro HX
  imod (Rounds.fund ER (Rd D) ringCells ringToks) $$ HX with ⟨Hst, Hr, Hat, Htok⟩
  imodintro
  ihave Hst' := (Entails.of_eq (hX fun g => roundState ER (Rd D) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

theorem ownSems0_eq (c : Dev nD) : (Pipeline.ownSems0 (Ix := Unit) (Name := ℕ) (U := UU) (Lvl := ℕ) (Val := Elt F) (τ := τ) osem c : sProp 𝕄)
    = bigSep Finset.univ fun k : CI => semVal (cellAt c k) 0 := rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CB => semVal (kcell (c, k)) 0 : sProp 𝕄) := by
  rw [ownSems0_eq, unscopedSems0_eq, bigSep_CB]
  iintro ⟨HS, HB⟩
  isplitl [HB]; · iexact HB
  iexact HS

theorem zeros_elim (c : Dev nD) : zeros (F := F) c
    ⊢ iprop(unscopedSems0 c ∗ Pipeline.ownSems0 (Ix := Unit) (Name := ℕ) (U := UU) (Lvl := ℕ) (Val := Elt F) (τ := τ) osem c) := by
  rw [ownSems0_eq, unscopedSems0_eq, bigSep_CI _ (cwI 7 :: doneL 7) (by decide) (by decide)]
  unfold zeros
  iintro ⟨HB, Hl, Hc⟩
  isplitl [HB]; · iexact HB
  isplitl [Hl]; · iexact Hl
  iexact Hc

theorem core_alloc (c : Dev nD) :
    iprop(Pipeline.ownSems0 (Ix := Unit) (Name := ℕ) (U := UU) (Lvl := ℕ) (Val := Elt F) (τ := τ) osem c ∗ unscopedSems0 c ∗ G D c)
      ⊢ |={Set.univ}=> iprop((bigSep Finset.univ fun k => iprop(∃ κ : ℕ, cellInv ER (Rd D) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CB => semVal (kcell (c, k)) 0) ∗ bigSep Finset.univ fun k : CB => roundState ER (Rd D) (kcell (c, k)) 0)
      ⊢ (|={Set.univ}=> bigSep Finset.univ fun k => iprop(∃ κ : ℕ, cellInv ER (Rd D) κ (kcell (c, k))) : sProp 𝕄) from by
        rw [← bigSep_sep']
        exact (bigSep_mono fun k _ => (Rounds.body_intro ER (Rd D) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (c : Dev nD) : iprop(Recs D K ∗ ((bigSep Finset.univ fun k : CB => atPos ER (kcell (c, k)) 0 ∅ 0) ∗ payToks (F := F) c)) ⊢ G' D c := by
  unfold G'
  iintro ⟨HR, H⟩
  isplitl [HR]; · iexists K; iexact HR
  iapply (kit_intro c); iexact H

theorem bigSep_recs {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd D) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' D) := by
  rw [bigSep_sep', bigSep_sep', ← bigSep_univ_prod (fun ck : Dev nD × CB => iprop(∃ κ : ℕ, cellInv ER (Rd D) κ (kcell ck))),
    bigSep_congr (s := Finset.univ) (fun (c : Dev nD) _ => bigSep_sep' Finset.univ (fun k : CB => (atPos ER (kcell (c, k)) 0 ∅ 0 : sProp 𝕄)) (fun k => reached ER (kcell (c, k)) 0)),
    bigSep_sep', ← bigSep_univ_prod (fun ck : Dev nD × CB => (reached ER (kcell ck) 0 : sProp 𝕄))]
  iintro ⟨HI, ⟨Hat, #HR⟩, Htok⟩
  ihave HK := (BI.bigSep_exists_pi Finset.univ (fun (ck : Dev nD × CB) (κ : ℕ) => (cellInv ER (Rd D) κ (kcell ck) : sProp 𝕄))) $$ HI
  icases HK with ⟨%K, #HI⟩
  ihave Htk := (toks_around (F := F)) $$ Htok
  iapply (bigSep_recs (R := Recs D K) fun c _ => ghost_intro D K c)
  isplitr
  · unfold Recs; isplitl; · iexact HI
    iexact HR
  · rw [bigSep_sep']
    isplitl [Hat]; · iexact Hat
    iexact Htk

/-- The launch's step over all devices at once. -/
theorem glob : (bigSep Finset.univ fun c => iprop(Pipeline.ownSems0 (Ix := Unit) (Name := ℕ) (U := UU) (Lvl := ℕ) (Val := Elt F) (τ := τ) osem c ∗ unscopedSems0 c ∗ G D c) : sProp 𝕄)
    ⊢ |={Set.univ}=> bigSep Finset.univ (G' D) :=
  ((bigSep_mono fun c _ => core_alloc D c).trans (bigSep_fupd _ _)).trans (BI.fupd_mono (regroup D))

/-! ## The launch credit -/

/-- The credit of device `c`'s own waits for the lanes of `l`. -/
def lanesT (c : Dev nD) : List Lane → CellTallies nD τ sig Unit
  | [] => 0
  | i :: l => lanesT c l + tallyAt (cellAt c (rcv true i)) () (NR true) + tallyAt (cellAt c (rcv false i)) () (NR false)
def T₀ (c : Dev nD) : CellTallies nD τ sig Unit := lanesT c order + tallyAt (barCell c) () 1 + tallyAt (barCell c) () 1

theorem sum_perm (f : Dev nD → Dev nD) (h : Function.Injective f) (g : Dev nD → CellTallies nD τ sig Unit) : ∑ d, g (f d) = ∑ d, g d :=
  Equiv.sum_comp (permOf f h) g

theorem sum_lanes (l : List Lane) : ∑ d, lanesO d l = ∑ d, lanesT d l := by
  induction l with
  | nil => rfl
  | cons i l ih =>
    simp only [lanesO, lanesT, Finset.sum_add_distrib]
    rw [ih, sum_perm (fun c => toD c i) (toD_injective i) fun c => tallyAt (cellAt c (rcv true i)) () (NR true),
      sum_perm (fun c => toD c i) (toD_injective i) fun c => tallyAt (cellAt c (rcv false i)) () (NR false)]

theorem sum_owed : ∑ d, O₀ d = ∑ d, T₀ d := by
  simp only [O₀, T₀, Finset.sum_add_distrib]
  rw [sum_lanes, sum_perm rightB rightB_injective fun c => tallyAt (barCell c) () 1, sum_perm leftB leftB_injective fun c => tallyAt (barCell c) () 1]

theorem add_own {A : CellTallies nD τ sig Unit} {c : Dev nD} {sm : SemLoc sig} {n : ℕ} (hA : ∀ g, A g ≠ 0 → g.1 = (c : Thread nD τ))
    {g : GSem nD τ sig} (h : (A + tallyAt ((c : Thread nD τ), sm) () n) g ≠ 0) : g.1 = (c : Thread nD τ) := by
  by_cases e : g = ((c : Thread nD τ), sm)
  · rw [e]
  · refine hA g fun h0 => h ?_
    rw [Pi.add_apply, h0, tallyAt_ne_cell e, add_zero]

theorem lanesT_own (c : Dev nD) : ∀ l g, lanesT c l g ≠ 0 → g.1 = (c : Thread nD τ)
  | [], g, h => absurd rfl h
  | i :: l, g, h => add_own (fun g hg => add_own (lanesT_own c l) hg) h
theorem T₀_own (c : Dev nD) (g) (h : T₀ c g ≠ 0) : g.1 = (c : Thread nD τ) := add_own (fun g hg => add_own (lanesT_own c order) hg) h

theorem cred_lanes (c : Dev nD) : ∀ l, (cred (lanesT c l) : sProp 𝕄) ⊢ listSep (lcred c) l
  | [] => by unfold listSep lanesT; rw [cred_zero]
  | i :: l => by
    rw [listSep_cons]; unfold lanesT lcred
    iintro H
    ihave H := (cred_add _ _).1 $$ H
    icases H with ⟨H, H1⟩
    ihave H := (cred_add _ _).1 $$ H
    icases H with ⟨Hl, H2⟩
    isplitl [H1 H2]; · isplitl [H1] <;> iassumption
    iapply (cred_lanes c l); iexact Hl

/-- The credit the launch deals device `c`. -/
theorem creds_intro (c : Dev nD) : (Pipeline.launchCred O₀ c : sProp 𝕄) ⊢ creds (F := F) c := by
  rw [Pipeline.launchCred_of_sum O₀ T₀ sum_owed T₀_own c]
  unfold creds T₀
  rw [add_assoc, tallyAt_add]
  iintro H
  ihave H := (cred_add _ _).1 $$ H
  icases H with ⟨Hl, Hb⟩
  isplitl [Hb]; · iexact Hb
  iapply (cred_lanes c order); iexact Hl

end Cert.KernelIdeal.Attn

end
-- ==== Proof.KernelIdeal.Run.lean ====
/-
# The run

Every weakly fair execution of the 16 devices ends, with the result computed, the arguments as they were and every
semaphore counter at zero.
-/
module

public import proofs.«01_k».proof.Proof.KernelIdeal.Deal
public import Idealize.ShloMosaic.Lib.Pipeline.CollectiveSegs
public import Idealize.ShloMosaic.Lib.Quiescent

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ UU ℕ

variable (D : Data F) (K : Dev nD × CB → ℕ)

section Run

variable (m : (ℓ : Loc nD τ sig) → Buf (Elt F) ℓ) (ρ : Dev nD → PrngReg)

theorem ownSemFacts : Pipeline.OwnSemFacts cfg0.spec osem where
  isScoped k := by
    have h : ∀ k : CI, (osem k).isScoped .tc = true := by decide +kernel
    exact h k
  inj := osem_injective
  disj := by decide +kernel

theorem share_eq (c : Dev nD) (w : Fin cfg0.W) : (dats m 0 c).share w = fullShare := by unfold Dat.share; split <;> rfl

theorem args_intro (c : Dev nD) :
    (Pipeline.unscopedRestP Pipeline.Prefetch.none cfg0.spec c (fun b => m ((c : Thread nD τ).loc b)) : sProp 𝕄) ⊢ args (DD m) c := by
  rw [Pipeline.unscopedRestP_none]
  exact Entails.of_eq (unscopedRest0_eq c _)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (DD m) c)
      ⊢ |={Set.univ}=> iprop(start m c ∗ emp) := by
  unfold G' start
  iintro ⟨Ha, Hlev, Hcr, -, HR, Hk⟩
  ihave Ha := (args_intro m c) $$ Ha
  ihave Hcr := (creds_intro (F := F) c) $$ Hcr
  imodintro
  isplitl
  · isplitl [HR Hlev]; · isplitl [HR] <;> iassumption
    isplitl [Hk]; · iexact Hk
    isplitl [Hcr]; · iexact Hcr
    iexact Ha
  · iempintro

theorem hold_intro (c : Dev nD) : (Pipeline.scopedRest cfg0.spec c : sProp 𝕄) ⊢ hold (F := F) c := Entails.of_eq (scopedRest0_eq c)
theorem hold_elim (c : Dev nD) : hold (F := F) c ⊢ (Pipeline.scopedRest cfg0.spec c : sProp 𝕄) := Entails.of_eq (scopedRest0_eq c).symm

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (hold_intro c); iexact Hr

/-- What a device holds after the kernel beside its windows: the barrier's counter at zero, and the replicated arguments. -/
def endP (c : Dev nD) : sProp 𝕄 := iprop(unscopedSems0 c ∗ args (DD m) c)

theorem phi1_exit (c : Dev nD) :
    (dats m 0 c).Φ (Fin.last cfg0.N) ⊢ iprop(endP m c ∗ Pipeline.ownSems0 osem c ∗ Pipeline.scopedRest cfg0.spec c) := by
  rw [show (dats m 0 c).Φ (Fin.last cfg0.N) = Φ₁ m c from rfl]
  unfold Φ₁ endP
  iintro ⟨Hh, Ha, Hz⟩
  ihave Hz := (zeros_elim (F := F) c) $$ Hz
  icases Hz with ⟨Hb, Ho⟩
  isplitl [Hb Ha]; · isplitl [Hb] <;> iassumption
  isplitl [Ho]; · iexact Ho
  iapply (hold_elim c); iexact Hh

theorem stage_ne : ∀ (w : Fin 4) (s : Fin (spec0 w).nbuf) (k : CI), osem k ≠ .dma ((spec0 w).sem s) := fun w s k => ownSemFacts.disj k w s

theorem waits (c : Dev nD) : (levAts L lv : sProp 𝕄) ⊢ Pipeline.cellsWaits cfgs (dats m) () 0 c :=
  Pipeline.cellsWaits_intro cfgs (dats m) () 0 c fun w s t =>
    mayWait_stage c _ (stage_ne w s) _ (by
      rcases t with ⟨_ | _, ht⟩
      · exact Or.inl rfl
      · exact Or.inr rfl)

/-! ### The final state -/

/-- What the run leaves of the barrier's counter and of the replicated arguments. -/
def QE (c : Dev nD) (s : MemSt nD τ sig (Elt F)) : Prop :=
  (∀ sm : SemLoc sig, sm.isScoped .tc = false → s.sem ((c.tc : Thread nD τ), sm) = 0)
    ∧ s.mem ((c : Thread nD τ).loc main_arg2) = m ((c : Thread nD τ).loc main_arg2)
    ∧ s.mem ((c : Thread nD τ).loc main_arg3) = m ((c : Thread nD τ).loc main_arg3)

theorem args_read (c : Dev nD) (s' : Phys nD τ sig (Elt F)) :
    iprop(args (DD m) c ∗ SI s') ⊢ (iprop(⌜s'.mem.mem ((c : Thread nD τ).loc main_arg2) = m ((c : Thread nD τ).loc main_arg2)
      ∧ s'.mem.mem ((c : Thread nD τ).loc main_arg3) = m ((c : Thread nD τ).loc main_arg3)⌝ ∗ SI s') : sProp 𝕄) := by
  have h := pointsTo_read_all (Ix := Unit) (Name := ℕ) (U := UU) (Lvl := ℕ) (Finset.univ : Finset Bool)
    (fun w => (c : Thread nD τ).loc (match w with | false => main_arg2 | true => main_arg3))
    (fun w => m ((c : Thread nD τ).loc (match w with | false => main_arg2 | true => main_arg3))) s'
  rw [show args (DD m) c = bigSep Finset.univ fun w : Bool => (((c : Thread nD τ).loc (match w with | false => main_arg2 | true => main_arg3)) ↦{fullShare}
    m ((c : Thread nD τ).loc (match w with | false => main_arg2 | true => main_arg3)) : sProp 𝕄) from by rw [bigSep_bool]; rfl]
  iintro ⟨Ha, HS⟩
  ihave H := h $$ [Ha HS]
  · isplitl [Ha]
    · iexact Ha
    · iexact HS
  icases H with ⟨%hq, HS⟩
  isplitr
  · ipureintro; exact ⟨hq false (Finset.mem_univ _), hq true (Finset.mem_univ _)⟩
  · iexact HS

theorem end_read (c : Dev nD) (s' : Phys nD τ sig (Elt F)) :
    iprop(endP m c ∗ emp ∗ SI s') ⊢ (|={Set.univ}=> iprop(⌜QE m c s'.mem⌝ ∗ SI s') : sProp 𝕄) := by
  unfold endP QE
  iintro ⟨⟨Hu, Ha⟩, -, HS⟩
  ihave H := (args_read m c s') $$ [Ha HS]
  · isplitl [Ha] <;> iassumption
  icases H with ⟨%ha, HS⟩
  imod (Pipeline.unscopedSems0_read (X := unscopedSems0 c) (c := c) fupd_intro s') $$ [Hu HS] with H
  · isplitl [Hu] <;> iassumption
  icases H with ⟨%hu, HS⟩
  imodintro
  isplitr
  · ipureintro; exact ⟨hu, ha⟩
  · iexact HS

def finalA (c : Dev nD) (w : Fin cfg0.W) : Buf (Elt F) ((cfg0.win w).arr.view.loc (c : Thread nD τ)) := (dats m 0 c).arrAt w cfg0.N

/-- The final state: the windows' arrays, the replicated arguments, and the counters. -/
def QC : PUnit × MemSt nD τ sig (Elt F) → Prop := fun r =>
  (∀ c : Dev nD, (∀ w : Fin cfg0.W, r.2.mem ((cfg0.win w).arr.view.loc (c : Thread nD τ)) = finalA m c w)
    ∧ r.2.mem ((c : Thread nD τ).loc main_arg2) = m ((c : Thread nD τ).loc main_arg2)
    ∧ r.2.mem ((c : Thread nD τ).loc main_arg3) = m ((c : Thread nD τ).loc main_arg3))
  ∧ r.2.sem = fun _ => 0

set_option maxRecDepth 65536 in
theorem run_main : θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun c => (main_chain c).trans rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (DD m)) (G' := G' (DD m)) (u₀ := u₀)
    (hu₀ := by
      unfold u₀
      iintro Hu
      ihave H := (ownU_pair _ _) $$ Hu
      icases H with ⟨HP, HX⟩
      imod (fund_ring (DD m)) $$ HX with HG
      imodintro
      isplitl [HP] <;> iassumption)
    (hglob := glob (DD m))
    (hA := fun _ _ => rfl) (hpf := fun _ k => k.elim0)
    (X := start m) (Y := endP m) (Z := fun _ => iprop(emp))
    (hX := start_intro m ρ) (hin := phi0_intro m) (hout := phi1_exit m)
    (QY := QE m) (hY := end_read m)
    (hQ := fun _ h hs => ⟨fun c => ⟨fun w => (h c).1 w, (h c).2.2.2⟩, sem_eq_zero hs fun c => (h c).2.2.1⟩)

/-! ### The arrays after the run -/

theorem finalA_in (c : Dev nD) (w : Fin cfg0.W) (hw : (cfg0.win w).isOut = false) :
    finalA m c w = m ((cfg0.win w).arr.view.loc (c : Thread nD τ)) := (dats (F := F) m 0 c).arrAt_in w hw _

/-- The arguments end unchanged, every counter at zero. -/
theorem run_frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) :=
  (θ_run defs _ _).mono (fun _ h => ⟨fun c => ⟨((h.1 c).1 0).trans (finalA_in m c 0 rfl), ((h.1 c).1 1).trans (finalA_in m c 1 rfl),
    (h.1 c).2.1, (h.1 c).2.2, ((h.1 c).1 2).trans (finalA_in m c 2 rfl)⟩, h.2⟩) (run_main m ρ)

end Run

end Cert.KernelIdeal.Attn

end
-- ==== Proof.Value.Row.lean ====
/-
# One row of attention over the extended reals

A row of finite scores, some of them kept. The kernel sums the exponentials of the kept scores and multiplies the weighted
values by one over that sum. The reference subtracts the largest kept score first and divides each weight. `row` says that
the two agree; the values themselves may be infinite.
-/
module

public import Idealize.ShloMosaic.Lib.Pointwise
public import Idealize.ShloMosaic.Lib.IdealHost

@[expose] public section

noncomputable section

namespace Cert.Value

open Idealize.ShloMosaic

/-! ## Constants -/

theorem ofBits_neg_inf : Ideal.ofBits .f32 0xFF800000#32 = ⊥ := by
  simp [Ideal.ofBits, Ideal.ieee]
theorem ofBits_inf : Ideal.ofBits .f32 0x7F800000#32 = ⊤ := by
  simp [Ideal.ofBits, Ideal.ieee]
theorem ofBits_eighth : Ideal.ofBits .f32 0x3E000000#32 = ((1 / 8 : ℝ) : EReal) := by
  simp [Ideal.ofBits, Ideal.ieee, -EReal.coe_mul]; norm_num

/-! ## Sums -/

theorem exp_coe (r : ℝ) : Ideal.exp (r : EReal) = ((Real.exp r : ℝ) : EReal) := rfl
theorem exp_bot : Ideal.exp ⊥ = 0 := rfl

/-- A sum of reals is real. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A real factor that is not negative moves out of a sum. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- Division of reals. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-! ## The row -/

variable {n : ℕ}

/-- The largest kept score of a row of reals is real. -/
theorem max_real (r : Fin n → ℝ) (p : Fin n → Prop) [DecidablePred p] (j₀ : Fin n) (hj : p j₀) :
    ∃ μ : ℝ, Finset.univ.fold max ⊥ (fun j => if p j then ((r j : ℝ) : EReal) else ⊥) = (μ : EReal) := by
  have htop : Finset.univ.fold max ⊥ (fun j => if p j then ((r j : ℝ) : EReal) else ⊥) ≠ ⊤ := by
    apply ne_of_lt
    rw [Finset.fold_max_lt]
    refine ⟨bot_lt_top, fun j _ => ?_⟩
    split
    · exact EReal.coe_lt_top _
    · exact bot_lt_top
  have hbot : Finset.univ.fold max ⊥ (fun j => if p j then ((r j : ℝ) : EReal) else ⊥) ≠ ⊥ := by
    apply ne_of_gt
    rw [Finset.lt_fold_max]
    exact Or.inr ⟨j₀, Finset.mem_univ _, by rw [if_pos hj]; exact EReal.bot_lt_coe _⟩
  exact ⟨_, (EReal.coe_toReal htop hbot).symm⟩

/-- The kernel's row is the reference's. -/
theorem row (s v : Fin n → EReal) (p : Fin n → Prop) [DecidablePred p] (hs : ∀ j, ∃ r : ℝ, s j = (r : EReal)) (j₀ : Fin n) (hj : p j₀) :
    (∑ j, (Ideal.exp (s j) * (if p j then 1 else 0)) * v j) * Ideal.div 1 (∑ j, Ideal.exp (s j) * (if p j then 1 else 0))
      = ∑ j, v j * Ideal.div (Ideal.exp ((if p j then s j else ⊥) - Finset.univ.fold max ⊥ (fun j => if p j then s j else ⊥)))
          (∑ k, Ideal.exp ((if p k then s k else ⊥) - Finset.univ.fold max ⊥ (fun j => if p j then s j else ⊥))) := by
  choose r hr using hs
  obtain rfl : s = fun j => ((r j : ℝ) : EReal) := funext hr
  obtain ⟨μ, hμ⟩ := max_real r p j₀ hj
  rw [hμ]
  have ha : ∀ j, Ideal.exp ((r j : ℝ) : EReal) * (if p j then 1 else 0) = ((if p j then Real.exp (r j) else 0 : ℝ) : EReal) := fun j => by
    rw [exp_coe]; split
    · rw [mul_one]
    · rw [mul_zero, EReal.coe_zero]
  have hb : ∀ j, Ideal.exp ((if p j then ((r j : ℝ) : EReal) else ⊥) - (μ : EReal))
      = (((if p j then Real.exp (r j) else 0) * Real.exp (-μ) : ℝ) : EReal) := fun j => by
    split
    · rw [← EReal.coe_sub, exp_coe, sub_eq_add_neg, Real.exp_add]
    · rw [EReal.bot_sub, exp_bot, zero_mul, EReal.coe_zero]
  simp only [ha, hb, sum_coe]
  have hS : 0 < ∑ j, (if p j then Real.exp (r j) else 0) := by
    refine Finset.sum_pos' (fun j _ => ?_) ⟨j₀, Finset.mem_univ _, by rw [if_pos hj]; exact Real.exp_pos _⟩
    split
    · exact (Real.exp_pos _).le
    · exact le_rfl
  have he := Real.exp_pos (-μ)
  rw [← Finset.sum_mul, ← EReal.coe_one, div_coe _ _ hS.ne', sum_mul_coe _ _ _ (by positivity)]
  refine Finset.sum_congr rfl fun j _ => ?_
  rw [div_coe _ _ (mul_pos hS he).ne', mul_right_comm, ← EReal.coe_mul, mul_comm, mul_div_mul_right _ _ he.ne', one_div,
    ← div_eq_mul_inv]

end Cert.Value

end
-- ==== Proof.Value.Ref.lean ====
/-
# The reference, element by element

The reference's result is cut into its steps: the block numbers of the rows, the mask, the scores, the weights and the
context. Each step is read at an index, down to the sums of `ref_apply`.
-/
module

public import proofs.«01_k».proof.Proof.Gen.ReferenceIdeal.Run
public import proofs.«01_k».proof.Proof.Value.Row
public import Idealize.ShloMosaic.Lib.Routing.OpsOrder

@[expose] public section

noncomputable section

namespace Cert.Value

open Cert.ReferenceIdeal Cert.ReferenceIdeal.Gen Idealize.ShloMosaic Idealize.ShloMosaic.TcCoe Idealize.SL.Sem

/-! ## The steps -/

/-- A row's block number: the row over 64, rounded down. -/
def blockR : IVec S128 32 :=
  let i : IVec S128 32 := iotaInDim S128 32 0
  let w : IVec S_ 32 := id (constantI S_ 32 64#32)
  select (andi (cmpi .ne (signi i) (broadcastInDim S128 ![] bcast_S_S128 (signi w)))
      (cmpi .ne (Host.remsi i (broadcastInDim S128 ![] bcast_S_S128 w)) (broadcastInDim S128 ![] bcast_S_S128 (constantI S_ 32 0#32))))
    (subi (Host.divsi i (broadcastInDim S128 ![] bcast_S_S128 w)) (broadcastInDim S128 ![] bcast_S_S128 (constantI S_ 32 1#32)))
    (Host.divsi i (broadcastInDim S128 ![] bcast_S_S128 w))

/-- The modulus three, as the remainder is taken by it. -/
def threeR : IVec S_ 32 :=
  select (cmpi .eq (id (constantI S_ 32 3#32)) (constantI S_ 32 0#32)) (constantI S_ 32 1#32) (id (constantI S_ 32 3#32))

/-- The query rows' and the key rows' block numbers over the whole rectangle. -/
def queryB : IVec S128x128 32 := broadcastInDim S128x128 ![0, 1] bcast_S128x1_S128x128_0_1 (broadcastInDim S128x1 ![0] bcast_S128_S128x1_0 blockR)
def keyRow : IVec S1x128 32 := broadcastInDim S1x128 ![1] bcast_S128_S1x128_1 blockR
def keyB : IVec S128x128 32 := broadcastInDim S128x128 ![0, 1] bcast_S1x128_S128x128_0_1 keyRow

/-- The sum of the block numbers' remainder by three. -/
def remR : IVec S128x128 32 := Host.remsi (addi queryB keyB) (broadcastInDim S128x128 ![] bcast_S_S128x128 threeR)
def modR : IVec S128x128 32 :=
  select (andi (cmpi .ne (cmpi .slt remR (broadcastInDim S128x128 ![] bcast_S_S128x128 (constantI S_ 32 0#32)))
        (broadcastInDim S128x128 ![] bcast_S_S128x128 (cmpi .slt threeR (constantI S_ 32 0#32))))
      (cmpi .ne remR (broadcastInDim S128x128 ![] bcast_S_S128x128 (constantI S_ 32 0#32))))
    (addi remR (broadcastInDim S128x128 ![] bcast_S_S128x128 threeR)) remR

/-- The mask: same block, first key block, or a sum of block numbers that three divides. -/
def maskR : IVec S128x128 1 :=
  ori (ori (cmpi .eq queryB keyB)
      (broadcastInDim S128x128 ![0, 1] bcast_S1x128_S128x128_0_1 (cmpi .eq keyRow (broadcastInDim S1x128 ![] bcast_S_S1x128 (constantI S_ 32 0#32)))))
    (cmpi .eq modR (broadcastInDim S128x128 ![] bcast_S_S128x128 (constantI S_ 32 0#32)))

/-- The rows that keep a key. -/
def keepR : IVec S128 1 := Host.reduce IntOp.ori maskR (constantI S_ 1 0#1) reducesTo_S128x128_S128_d1 h_S_

variable (x : FVec Ideal S32x128x512 .f32) (wq : FVec Ideal S512x4096 .f32) (k v : FVec Ideal S32x128x64x64 .f32)
  (wo : FVec Ideal S4096x512 .f32)

/-- The queries, head by head. -/
def queryR : FVec Ideal S32x128x64x64 .f32 :=
  shapeCast _ (Host.dotGeneral dot_S32x128x512_S512x4096_S32x128x4096_2_0_01_1_n_n none x wq : FVec Ideal S32x128x4096 .f32)
    shapeCasts_S32x128x4096_S32x128x64x64

/-- The scores, the masked ones minus infinity. -/
def scoreR : FVec Ideal S32x64x128x128 .f32 :=
  select (broadcastInDim S32x64x128x128 ![0, 1, 2, 3] bcast_S1x1x128x128_S32x64x128x128_0_1_2_3
      (broadcastInDim S1x1x128x128 ![2, 3] bcast_S128x128_S1x1x128x128_2_3 maskR))
    (mulf (Host.dotGeneral dot_S32x128x64x64_S32x128x64x64_S32x64x128x128_3_3_1_1_02_02 none (queryR x wq) k)
      (broadcastInDim S32x64x128x128 ![] bcast_S_S32x64x128x128 (constant S_ .f32 0x3E000000#32)))
    (broadcastInDim S32x64x128x128 ![] bcast_S_S32x64x128x128 (id (constant S_ .f32 0xFF800000#32)))

/-- The exponentials of a rectangle of scores, each less its row's largest. -/
def expR (s : FVec Ideal S32x64x128x128 .f32) : FVec Ideal S32x64x128x128 .f32 :=
  Host.exp (subf s (broadcastInDim S32x64x128x128 ![0, 1, 2, 3] bcast_S32x64x128x1_S32x64x128x128_0_1_2_3
    (broadcastInDim S32x64x128x1 ![0, 1, 2] bcast_S32x64x128_S32x64x128x1_0_1_2
      (Host.reduce FloatOps.maximumf s (constant S_ .f32 0xFF800000#32) reducesTo_S32x64x128x128_S32x64x128_d3 h_S_))))

/-- The weights: each exponential over its row's sum, zero in a row that keeps nothing. -/
def weightR (w : FVec Ideal S32x64x128x128 .f32) : FVec Ideal S32x64x128x128 .f32 :=
  select (broadcastInDim S32x64x128x128 ![0, 1, 2, 3] bcast_S1x1x128x1_S32x64x128x128_0_1_2_3 (broadcastInDim S1x1x128x1 ![2] bcast_S128_S1x1x128x1_2 keepR))
    (Host.divf w (broadcastInDim S32x64x128x128 ![0, 1, 2, 3] bcast_S32x64x128x1_S32x64x128x128_0_1_2_3
      (select (broadcastInDim S32x64x128x1 ![0, 1, 2, 3] bcast_S1x1x128x1_S32x64x128x1_0_1_2_3 (broadcastInDim S1x1x128x1 ![2] bcast_S128_S1x1x128x1_2 keepR))
        (broadcastInDim S32x64x128x1 ![0, 1, 2] bcast_S32x64x128_S32x64x128x1_0_1_2
          (Host.reduceAdd w (constant S_ .f32 0x00000000#32) reducesTo_S32x64x128x128_S32x64x128_d3 h_S_))
        (broadcastInDim S32x64x128x1 ![] bcast_S_S32x64x128x1 (id (constant S_ .f32 0x3F800000#32))))))
    (broadcastInDim S32x64x128x128 ![] bcast_S_S32x64x128x128 (id (constant S_ .f32 0x00000000#32)))

/-- The result from the weights. -/
def outR (p : FVec Ideal S32x64x128x128 .f32) : FVec Ideal S32x128x512 .f32 :=
  Host.dotGeneral dot_S32x128x4096_S4096x512_S32x128x512_2_0_01_1_n_n none
    (shapeCast _ (transpose S32x128x64x64 [0, 3, 1, 2]
      (Host.dotGeneral dot_S32x128x64x64_S32x64x128x128_S32x64x64x128_1_3_3_2_02_01 none v p)
      transposes_S32x64x64x128_S32x128x64x64_0_3_1_2 : FVec Ideal S32x128x64x64 .f32) shapeCasts_S32x128x64x64_S32x128x4096) wo

set_option maxRecDepth 65536 in
/-- The reference's result is these steps, one after another. -/
theorem res_eq (m : (ℓ : Loc nD τ sig) → Buf (Elt Ideal) ℓ) (c : Dev nD) :
    Cert.ReferenceIdeal.Value.res_main_v44 m c
      = outR (m ((c.tc : Thread nD τ).loc main_arg3)) (m ((c.tc : Thread nD τ).loc main_arg4))
          (weightR (expR (scoreR (m ((c.tc : Thread nD τ).loc main_arg0)) (m ((c.tc : Thread nD τ).loc main_arg1)) (m ((c.tc : Thread nD τ).loc main_arg2))))) := by
  unfold Cert.ReferenceIdeal.Value.res_main_v44; rfl

/-! ## The mask -/

/-- Whether the reference keeps key row `j` for query row `i`: all but the second key block in the first query block. -/
def kept (i j : Fin 128) : Prop := ¬ (i.val < 64 ∧ 64 ≤ j.val)
instance (i j : Fin 128) : Decidable (kept i j) := inferInstanceAs (Decidable (¬ _))

theorem kept_zero (i : Fin 128) : kept i 0 := fun h => absurd h.2 (by decide)

set_option maxRecDepth 16384 in
theorem blockR_apply (i : Fin 128) : blockR (ix1 i) = if i.val < 64 then 0#32 else 1#32 := by
  pointwise [blockR]
  revert i; decide +kernel

set_option maxRecDepth 16384 in
theorem maskR_apply (i j : Fin 128) : maskR (ix2 i j) = if kept i j then 1#1 else 0#1 := by
  pointwise [maskR, modR, remR, queryB, keyB, keyRow, threeR]
  simp only [blockR_apply]
  by_cases hi : i.val < 64 <;> by_cases hj : j.val < 64
  · rw [if_pos hi, if_pos hj, if_pos (show kept i j by unfold kept; omega)]; decide
  · rw [if_pos hi, if_neg hj, if_neg (show ¬ kept i j by unfold kept; omega)]; decide
  · rw [if_neg hi, if_pos hj, if_pos (show kept i j by unfold kept; omega)]; decide
  · rw [if_neg hi, if_neg hj, if_pos (show kept i j by unfold kept; omega)]; decide

set_option maxRecDepth 16384 in
/-- Every row keeps a key. -/
theorem keepR_apply (i : Fin 128) : keepR (ix1 i) = 1#1 := by
  pointwise [keepR]
  rw [Routing.fold_ori]
  exact ⟨0, Finset.mem_univ _, by rw [maskR_apply, if_pos (kept_zero i)]⟩

/-! ## The values -/

/-- Column `d` of head `h` in the joined heads. -/
def col (h d : Fin 64) : Fin 4096 := ⟨h.val * 64 + d.val, by omega⟩

/-- A query, and a score before the mask. -/
def qS (b : Fin 32) (i : Fin 128) (h d : Fin 64) : EReal := ∑ e : Fin 512, x (ix3 b i e) * wq (ix2 e (col h d))
def sS (b : Fin 32) (h : Fin 64) (i j : Fin 128) : EReal := (∑ d : Fin 64, qS x wq b i h d * k (ix4 b j h d)) * ((1 / 8 : ℝ) : EReal)

/-- A row's context: the values weighted by the exponentials of the kept scores, over the sum of those. -/
def ctxS (i : Fin 128) (s u : Fin 128 → EReal) : EReal :=
  (∑ j, (Ideal.exp (s j) * (if kept i j then 1 else 0)) * u j) * Ideal.div 1 (∑ j, Ideal.exp (s j) * (if kept i j then 1 else 0))

/-- The whole result. -/
def outS (b : Fin 32) (i : Fin 128) (e : Fin 512) : EReal :=
  ∑ h : Fin 64, ∑ d : Fin 64, ctxS i (sS x wq k b h i) (fun j => v (ix4 b j h d)) * wo (ix2 (col h d) e)

set_option maxRecDepth 16384 in
theorem queryR_apply (b : Fin 32) (i : Fin 128) (h d : Fin 64) : queryR x wq (ix4 b i h d) = qS x wq b i h d := by
  pointwise [queryR]
  rfl

set_option maxRecDepth 16384 in
theorem scoreR_apply (b : Fin 32) (h : Fin 64) (i j : Fin 128) :
    scoreR x wq k (ix4 b h i j) = if kept i j then sS x wq k b h i j else ⊥ := by
  pointwise [scoreR]
  simp only [queryR_apply, maskR_apply]
  show Scalar.select _ (_ * Ideal.ofBits .f32 0x3E000000#32) (Ideal.ofBits .f32 0xFF800000#32) = _
  rw [ofBits_eighth, ofBits_neg_inf]
  split <;> rfl

set_option maxRecDepth 16384 in
theorem expR_apply (s : FVec Ideal S32x64x128x128 .f32) (b : Fin 32) (h : Fin 64) (i j : Fin 128) :
    expR s (ix4 b h i j) = Ideal.exp (s (ix4 b h i j) - Finset.univ.fold max ⊥ (fun j => s (ix4 b h i j))) := by
  pointwise [expR]
  rw [← ofBits_neg_inf]

set_option maxRecDepth 16384 in
theorem weightR_apply (w : FVec Ideal S32x64x128x128 .f32) (b : Fin 32) (h : Fin 64) (i j : Fin 128) :
    weightR w (ix4 b h i j) = Ideal.div (w (ix4 b h i j)) (∑ j, w (ix4 b h i j)) := by
  pointwise [weightR]
  rw [keepR_apply]
  rfl

set_option maxRecDepth 16384 in
theorem outR_apply (p : FVec Ideal S32x64x128x128 .f32) (b : Fin 32) (i : Fin 128) (e : Fin 512) :
    outR v wo p (ix3 b i e) = ∑ n : Fin 4096, (∑ j, v (ix4 b j (⟨n.val / 64, by omega⟩ : Fin 64) (⟨n.val % 64, by omega⟩ : Fin 64))
      * p (ix4 b (⟨n.val / 64, by omega⟩ : Fin 64) i j)) * wo (ix2 n e) := by
  pointwise [outR]

/-- A sum over the joined heads, head by head. -/
theorem sum_cols (f : Fin 4096 → EReal) : ∑ n, f n = ∑ h, ∑ d, f (col h d) := by
  rw [← Fintype.sum_prod_type', ← (finProdFinEquiv (m := 64) (n := 64)).sum_comp]
  exact Finset.sum_congr rfl fun a _ => congrArg f (Fin.ext (by show a.2.val + 64 * a.1.val = a.1.val * 64 + a.2.val; omega))

/-! ## Finite scores -/

theorem qS_real (hx : ∀ i, ∃ r : ℝ, x i = (r : EReal)) (hw : ∀ i, ∃ r : ℝ, wq i = (r : EReal)) (b : Fin 32) (i : Fin 128) (h d : Fin 64) :
    ∃ r : ℝ, qS x wq b i h d = (r : EReal) := by
  choose f hf using hx
  choose g hg using hw
  exact ⟨_, by unfold qS; simp only [hf, hg, ← EReal.coe_mul]; exact sum_coe _ _⟩

theorem sS_real (hx : ∀ i, ∃ r : ℝ, x i = (r : EReal)) (hw : ∀ i, ∃ r : ℝ, wq i = (r : EReal)) (hk : ∀ i, ∃ r : ℝ, k i = (r : EReal))
    (b : Fin 32) (h : Fin 64) (i j : Fin 128) : ∃ r : ℝ, sS x wq k b h i j = (r : EReal) := by
  choose f hf using qS_real x wq hx hw b i h
  choose g hg using hk
  exact ⟨_, by unfold sS; simp only [hf, hg, ← EReal.coe_mul]; rw [sum_coe, ← EReal.coe_mul]⟩

/-- The reference's result at an index, of finite inputs, query weights and keys. -/
theorem ref_apply (hx : ∀ i, ∃ r : ℝ, x i = (r : EReal)) (hw : ∀ i, ∃ r : ℝ, wq i = (r : EReal)) (hk : ∀ i, ∃ r : ℝ, k i = (r : EReal))
    (b : Fin 32) (i : Fin 128) (e : Fin 512) :
    outR v wo (weightR (expR (scoreR x wq k))) (ix3 b i e) = outS x wq k v wo b i e := by
  rw [outR_apply, sum_cols]
  refine Finset.sum_congr rfl fun h _ => Finset.sum_congr rfl fun d _ => ?_
  have hh : (⟨(col h d).val / 64, by have := (col h d).isLt; omega⟩ : Fin 64) = h := Fin.ext (by show (h.val * 64 + d.val) / 64 = h.val; omega)
  have hd : (⟨(col h d).val % 64, by omega⟩ : Fin 64) = d := Fin.ext (by show (h.val * 64 + d.val) % 64 = d.val; omega)
  rw [hh, hd]
  refine congrArg (· * _) ?_
  unfold ctxS
  rw [row (sS x wq k b h i) _ (kept i) (sS_real x wq k hx hw hk b h i) 0 (kept_zero i)]
  simp only [weightR_apply, expR_apply, scoreR_apply]

end Cert.Value

end
-- ==== Proof.Value.Tile.lean ====
/-
# The kernel's values, element by element

The mask, the queries, the exponentials, the context and the contribution of one shard, each read at an index.
-/
module

public import proofs.«01_k».proof.Proof.KernelIdeal.Shape
public import proofs.«01_k».proof.Proof.Value.Ref

@[expose] public section

noncomputable section

namespace Cert.Value

open Cert.KernelIdeal Cert.KernelIdeal.Gen Cert.KernelIdeal.Attn
open Idealize.ShloMosaic Idealize.ShloMosaic.TcCoe Idealize.SL.Sem

/-! ## The mask -/

/-- Row `i` of batch row `b` among the 256 rows of a device. -/
def row2 (b : Fin 2) (i : Fin 128) : Fin 256 := ⟨128 * b.val + i.val, by omega⟩

abbrev iotaP : IVec S256x256 32 := iota .tc S256x256 32 [0] iota_S256x256_d0_w32
abbrev iotaJ : IVec S256x256 32 := iota .tc S256x256 32 [1] iota_S256x256_d1_w32

set_option maxRecDepth 16384 in
theorem rowBatch_apply (p j : Fin 256) : k0_pay4 (ix2 p j) = if p.val < 128 then 0#32 else 1#32 := by
  pointwise [k0_pay4]
  revert p; decide +kernel

set_option maxRecDepth 16384 in
theorem keyBatch_apply (p j : Fin 256) : k0_pay8 iotaJ k0_pay5 k0_pay6 k0_pay7 (ix2 p j) = if j.val < 128 then 0#32 else 1#32 := by
  pointwise [k0_pay8, k0_pay5, k0_pay6, k0_pay7]
  revert j; decide +kernel

set_option maxRecDepth 16384 in
theorem rowBlock_apply (p j : Fin 256) :
    k0_pay13 (k0_pay10 iotaP) (k0_pay11 iotaP) k0_pay12 (ix2 p j) = if p.val % 128 < 64 then 0#32 else 1#32 := by
  pointwise [k0_pay13, k0_pay10, k0_pay11, k0_pay12, k0_pay9]
  revert p; decide +kernel

set_option maxRecDepth 16384 in
theorem keyBlock_apply (p j : Fin 256) : k0_pay14 iotaJ (ix2 p j) = if j.val % 128 < 64 then 0#32 else 1#32 := by
  pointwise [k0_pay14]
  revert j; decide +kernel

theorem row2_batch (b : Fin 2) (i : Fin 128) : ((row2 b i).val < 128) ↔ b = 0 := by
  unfold row2; rw [Fin.ext_iff]; show 128 * b.val + i.val < 128 ↔ b.val = 0; omega
theorem row2_block (b : Fin 2) (i : Fin 128) : (row2 b i).val % 128 = i.val := by
  show (128 * b.val + i.val) % 128 = i.val; omega

theorem sitofp_bit (p : Prop) [Decidable p] :
    (FloatOps.sitofp (F := Ideal) .f32 (if p then 1#32 else 0#32) : EReal) = if p then 1 else 0 := by
  split
  · show (((1#32 : BitVec 32).toInt : ℝ) : EReal) = 1
    rw [show (1#32 : BitVec 32).toInt = 1 by decide]; simp
  · show (((0#32 : BitVec 32).toInt : ℝ) : EReal) = 0
    rw [show (0#32 : BitVec 32).toInt = 0 by decide]; simp

set_option maxRecDepth 16384 in
/-- A query row weighs a key row exactly when the two are of one batch row and the reference keeps the pair. -/
theorem mask_apply (b a : Fin 2) (i j : Fin 128) :
    maskV (F := Ideal) (ix2 (row2 b i) (row2 a j)) = if a = b ∧ kept i j then 1 else 0 := by
  unfold maskV
  generalize hx : k0_pay15 _ _ _ _ = x
  have hx' : x (ix2 (row2 b i) (row2 a j)) = _ := congrFun hx.symm _
  pointwise [k0_pay15] at hx'
  pointwise [k0_pay16]
  rw [hx', rowBatch_apply, keyBatch_apply, rowBlock_apply, keyBlock_apply, ← sitofp_bit]
  refine congrArg _ ?_
  clear hx' hx x
  simp only [row2_batch, row2_block]
  by_cases hi : i.val < 64 <;> by_cases hj : j.val < 64
  · simp only [if_pos hi, if_pos hj, eq_true (show kept i j by unfold kept; omega)]
    revert a b; decide
  · simp only [if_pos hi, if_neg hj, eq_false (show ¬ kept i j by unfold kept; omega)]
    revert a b; decide
  · simp only [if_neg hi, if_pos hj, eq_true (show kept i j by unfold kept; omega)]
    revert a b; decide
  · simp only [if_neg hi, if_neg hj, eq_true (show kept i j by unfold kept; omega)]
    revert a b; decide

/-! ## One head -/

section

variable (x : FVec Ideal S256x512 .f32) (w : Vec Ideal S1x512x256 .f32) (k v : Vec Ideal S1x2x128x64 .f32) (o : Vec Ideal S1x64x512 .f32)
  (q m : FVec Ideal S256x256 .f32)

theorem row2_div (b : Fin 2) (i : Fin 128) : (row2 b i).val / 128 = b.val := by
  show (128 * b.val + i.val) / 128 = b.val; omega

set_option maxRecDepth 16384 in
theorem queryV_apply (p n : Fin 256) : queryV x w (ix2 p n) = ∑ e : Fin 512, x (ix2 p e) * w (ix3 (0 : Fin 1) e n) := by
  pointwise [queryV]

set_option maxRecDepth 16384 in
theorem rowsV_apply (b : Fin 2) (i : Fin 128) (d : Fin 64) : rowsV k (ix2 (row2 b i) d) = k (ix4 (0 : Fin 1) b i d) := by
  pointwise [rowsV]
  simp only [row2_div, row2_block]

/-- Column `d` of head `hh` among the four heads of a shard. -/
def col4 (hh : Fin 4) (d : Fin 64) : Fin 256 := ⟨64 * hh.val + d.val, by omega⟩

set_option maxRecDepth 16384 in
theorem weightV_apply (hh : Fin 4) (p j : Fin 256) :
    weightV m q hh k (ix2 p j) = Ideal.exp (∑ d : Fin 64, q (ix2 p (col4 hh d)) * rowsV k (ix2 j d)) * m (ix2 p j) := by
  pointwise [weightV]
  rfl

set_option maxRecDepth 16384 in
theorem ctxV_apply (p : Fin 256) (d : Fin 64) :
    ctxV m v (ix2 p d) = (∑ j, m (ix2 p j) * rowsV v (ix2 j d)) * Ideal.div 1 (∑ j, m (ix2 p j)) := by
  pointwise [ctxV]

set_option maxRecDepth 16384 in
theorem headV_apply (hh : Fin 4) (p : Fin 256) (e : Fin 512) :
    headV m q hh k v o (ix2 p e) = ∑ d : Fin 64, ctxV (weightV m q hh k) v (ix2 p d) * o (ix3 (0 : Fin 1) d e) := by
  pointwise [headV]

set_option maxRecDepth 16384 in
theorem castV_eq (a : FVec Ideal S256x512 .f32) : castV a = a := by
  unfold castV
  funext j
  pointwise []

set_option maxRecDepth 16384 in
theorem pay1_apply (w : Vec Ideal S512x256 .f32) (e : Fin 512) (n : Fin 256) :
    k0_pay1 w (ix3 (0 : Fin 1) e n) = w (ix2 e n) * ((1 / 8 : ℝ) : EReal) := by
  pointwise [k0_pay1]
  rw [← ofBits_eighth]
set_option maxRecDepth 16384 in
theorem pay2_apply (w : Vec Ideal S256x512 .f32) (n : Fin 256) (e : Fin 512) : k0_pay2 w (ix3 (0 : Fin 1) n e) = w (ix2 n e) := by
  pointwise [k0_pay2]
set_option maxRecDepth 16384 in
theorem pay3_apply (x : Vec Ideal S2x128x512 .f32) (b : Fin 2) (i : Fin 128) (e : Fin 512) :
    k0_pay3 x (ix2 (row2 b i) e) = x (ix3 b i e) := by
  pointwise [k0_pay3]
  simp only [row2_div, row2_block]
set_option maxRecDepth 16384 in
theorem pay178_apply (a : Vec Ideal S256x512 .f32) (b : Fin 2) (i : Fin 128) (e : Fin 512) :
    k0_pay178 a (ix3 b i e) = a (ix2 (row2 b i) e) := by
  pointwise [k0_pay178]
  rw [show (⟨b.val * 128 + i.val, by omega⟩ : Fin 256) = row2 b i from Fin.ext (by show b.val * 128 + i.val = 128 * b.val + i.val; omega)]

/-- A sum over a device's rows, batch row by batch row. -/
theorem sum_rows (f : Fin 256 → EReal) : ∑ p, f p = ∑ b, ∑ i, f (row2 b i) := by
  rw [← Fintype.sum_prod_type', ← (finProdFinEquiv (m := 2) (n := 128)).sum_comp]
  exact Finset.sum_congr rfl fun a _ => congrArg f (Fin.ext (by show a.2.val + 128 * a.1.val = 128 * a.1.val + a.2.val; omega))

/-- The rows of the other batch row add nothing. -/
theorem sum_own (b : Fin 2) (f : Fin 256 → EReal) (h : ∀ a j, a ≠ b → f (row2 a j) = 0) : ∑ p, f p = ∑ j, f (row2 b j) := by
  rw [sum_rows, Finset.sum_eq_single b (fun a _ ha => Finset.sum_eq_zero fun j _ => h a j ha) (fun h => absurd (Finset.mem_univ _) h)]

end

/-! ## One head, from the whole arrays -/

section

variable (X : FVec Ideal Cert.ReferenceIdeal.S32x128x512 .f32) (WQ : FVec Ideal Cert.ReferenceIdeal.S512x4096 .f32)
  (K V : FVec Ideal Cert.ReferenceIdeal.S32x128x64x64 .f32) (WO : FVec Ideal Cert.ReferenceIdeal.S4096x512 .f32)

/-- Scaling the query weights scales the scores. -/
theorem score_scaled (b : Fin 32) (h : Fin 64) (i j : Fin 128) :
    (∑ d : Fin 64, (∑ e : Fin 512, X (ix3 b i e) * (WQ (ix2 e (col h d)) * ((1 / 8 : ℝ) : EReal))) * K (ix4 b j h d)) = sS X WQ K b h i j := by
  have h8 : (0 : ℝ) ≤ 1 / 8 := by norm_num
  unfold sS
  rw [sum_mul_coe _ _ _ h8]
  refine Finset.sum_congr rfl fun d _ => ?_
  unfold qS
  rw [mul_right_comm, sum_mul_coe _ _ _ h8]
  simp only [mul_assoc]

/-- A head's contribution, of operands that are its parts of the whole arrays. -/
theorem head_eq (x : FVec Ideal S256x512 .f32) (w : Vec Ideal S1x512x256 .f32) (k v : Vec Ideal S1x2x128x64 .f32) (o : Vec Ideal S1x64x512 .f32)
    (hh : Fin 4) (h : Fin 64) (B : Fin 2 → Fin 32)
    (hx : ∀ b i e, x (ix2 (row2 b i) e) = X (ix3 (B b) i e))
    (hw : ∀ e d, w (ix3 (0 : Fin 1) e (col4 hh d)) = WQ (ix2 e (col h d)) * ((1 / 8 : ℝ) : EReal))
    (hk : ∀ b j d, k (ix4 (0 : Fin 1) b j d) = K (ix4 (B b) j h d))
    (hv : ∀ b j d, v (ix4 (0 : Fin 1) b j d) = V (ix4 (B b) j h d))
    (ho : ∀ d e, o (ix3 (0 : Fin 1) d e) = WO (ix2 (col h d) e)) (b : Fin 2) (i : Fin 128) (e : Fin 512) :
    headV maskV (queryV x w) hh k v o (ix2 (row2 b i) e)
      = ∑ d : Fin 64, ctxS i (sS X WQ K (B b) h i) (fun j => V (ix4 (B b) j h d)) * WO (ix2 (col h d) e) := by
  have hm : ∀ a j, weightV maskV (queryV x w) hh k (ix2 (row2 b i) (row2 a j))
      = Ideal.exp (∑ d : Fin 64, (∑ e : Fin 512, X (ix3 (B b) i e) * (WQ (ix2 e (col h d)) * ((1 / 8 : ℝ) : EReal))) * K (ix4 (B a) j h d))
        * (if a = b ∧ kept i j then 1 else 0) := by
    intro a j
    rw [weightV_apply, mask_apply]
    simp only [queryV_apply, rowsV_apply, hx, hw, hk]
  have hb : ∀ j, weightV maskV (queryV x w) hh k (ix2 (row2 b i) (row2 b j))
      = Ideal.exp (sS X WQ K (B b) h i j) * (if kept i j then 1 else 0) := by
    intro j; rw [hm, score_scaled]; simp only [true_and]
  have h0 : ∀ a j, a ≠ b → weightV maskV (queryV x w) hh k (ix2 (row2 b i) (row2 a j)) = 0 := by
    intro a j ha; rw [hm, if_neg (fun h => ha h.1), mul_zero]
  rw [headV_apply]
  refine Finset.sum_congr rfl fun d _ => ?_
  rw [ctxV_apply, ho, sum_own b _ (fun a j ha => by rw [h0 a j ha, zero_mul]), sum_own b _ h0]
  simp only [hb, rowsV_apply, hv]
  rfl

end

end Cert.Value

end
-- ==== Proof.Value.Device.lean ====
/-
# What a device leaves in the result

The parts of the arguments a device's program works on, the contribution of each ring slot, and their sum: each device's
block of the result is its batch rows of the whole attention.
-/
module

public import proofs.«01_k».proof.Proof.KernelIdeal.Run
public import proofs.«01_k».proof.Proof.Value.Tile

@[expose] public section

noncomputable section

namespace Cert.Value

open Cert.KernelIdeal Cert.KernelIdeal.Gen Cert.KernelIdeal.Attn
open Idealize.ShloMosaic Idealize.ShloMosaic.TcCoe Idealize.SL.Sem

/-! ## What is loaded -/

section

variable (D : Data Ideal) (c : Dev nD) (r : Fin 16) (hh : Fin 4)

/-- Head `hh` of device `s`'s shard, among all heads. -/
def hd (s : Dev nD) (hh : Fin 4) : Fin 64 := ⟨4 * s.val + hh.val, by have : s.val < 16 := s.isLt; omega⟩

theorem wAt_apply (e : Fin 512) (n : Fin 256) : wAt D c r (ix3 (0 : Fin 1) e n) = D.Wq (org c r) (ix3 (0 : Fin 1) e n) := by
  show ringQ D.Wq c ((wqR r).emb (ix3 (0 : Fin 1) e n)) = _
  have h : (wqR r).emb (ix3 (0 : Fin 1) e n) = ix3 r e n := by
    funext a; apply Fin.ext; rw [Rect.emb_apply]
    fin_cases a
    · show r.val + 1 * 0 = r.val; omega
    · show 0 + 1 * e.val = e.val; omega
    · show 0 + 1 * n.val = n.val; omega
  rw [h, ix3_eq_valueIdx (0 : Fin 1) e n]
  rfl

theorem oAt_apply (d : Fin 64) (e : Fin 512) : oAt D c r hh (ix3 (0 : Fin 1) d e) = D.Wo (org c r) (ix3 (0 : Fin 1) (col4 hh d) e) := by
  show ringO D.Wo c ((wohR r hh).emb (ix3 (0 : Fin 1) d e)) = _
  have h : (wohR r hh).emb (ix3 (0 : Fin 1) d e) = ix3 r (col4 hh d) e := by
    funext a; apply Fin.ext; rw [Rect.emb_apply]
    fin_cases a
    · show r.val + 1 * 0 = r.val; omega
    · show 64 * hh.val + 1 * d.val = 64 * hh.val + d.val; omega
    · show 0 + 1 * e.val = e.val; omega
  rw [h, ix3_eq_valueIdx (0 : Fin 1) (col4 hh d) e]
  rfl

theorem khd_emb (b : Fin 2) (j : Fin 128) (d : Fin 64) :
    (khdR c r hh).emb (ix4 (0 : Fin 1) b j d) = ix4 (hd (org c r) hh) b j d := by
  funext a; apply Fin.ext; rw [Rect.emb_apply]
  have e : (khdR c r hh).off = k0_off65 c (BitVec.ofNat 32 r.val) (BitVec.ofNat 32 hh.val) := rfl
  rw [e, k0_off65_eq]
  fin_cases a
  · show 4 * ((c.val + 16 - r.val) % 16) + hh.val + 1 * 0 = 4 * ((c.val + 16 - r.val) % 16) + hh.val; omega
  · show 0 + 1 * b.val = b.val; omega
  · show 0 + 1 * j.val = j.val; omega
  · show 0 + 1 * d.val = d.val; omega

theorem kAt_apply (b : Fin 2) (j : Fin 128) (d : Fin 64) :
    kAt D c r hh (ix4 (0 : Fin 1) b j d) = D.K c (ix4 (rowB c b) j (hd (org c r) hh) d) := by
  show headsK (D.K c) c ((khdR c r hh).emb (ix4 (0 : Fin 1) b j d)) = _
  rw [khd_emb, ix4_eq_valueIdx (rowB c b)]
  rfl

theorem vAt_apply (b : Fin 2) (j : Fin 128) (d : Fin 64) :
    vAt D c r hh (ix4 (0 : Fin 1) b j d) = D.V c (ix4 (rowB c b) j (hd (org c r) hh) d) := by
  show headsK (D.V c) c ((khdR c r hh).emb (ix4 (0 : Fin 1) b j d)) = _
  rw [khd_emb, ix4_eq_valueIdx (rowB c b)]
  rfl

theorem addf_apply (a b : FVec Ideal S256x512 .f32) (p : S256x512.Idx) : addf a b p = a p + b p := by pointwise []

/-- A shard's contribution is the sum of its heads'. -/
theorem shardAt_apply (x : FVec Ideal S256x512 .f32) (p : S256x512.Idx) :
    shardAt D c x r p = ∑ hh : Fin 4, headV maskV (queryV x (wAt D c r)) hh (kAt D c r hh) (vAt D c r hh) (oAt D c r hh) p := by
  rw [Fin.sum_univ_four]
  unfold shardAt shardV
  simp only [addf_apply]
  rfl

/-- The accumulator ends holding the sum of the sixteen shards' contributions. -/
theorem accEnd_apply (x : FVec Ideal S256x512 .f32) (p : S256x512.Idx) : accEnd D c x p = ∑ r : Fin 16, shardAt D c x r p := by
  have h : accEnd D c x p = shardAt D c x 0 p + shardAt D c x 1 p + shardAt D c x 15 p + shardAt D c x 2 p + shardAt D c x 14 p
      + shardAt D c x 3 p + shardAt D c x 13 p + shardAt D c x 4 p + shardAt D c x 12 p + shardAt D c x 5 p + shardAt D c x 11 p
      + shardAt D c x 6 p + shardAt D c x 10 p + shardAt D c x 7 p + shardAt D c x 9 p + shardAt D c x 8 p := by
    simp only [accEnd, accN, castV_eq, addf_apply]
    rfl
  rw [h, Fin.sum_univ_def, show List.finRange 16 = [0, 1, 2, 3, 4, 5, 6, 7, 8, 9, 10, 11, 12, 13, 14, 15] by decide]
  simp only [List.map_cons, List.map_nil, List.sum_cons, List.sum_nil, add_zero]
  ac_rfl

theorem org_bijective : Function.Bijective (org c) := by
  refine Finite.injective_iff_bijective.mp fun a b h => Fin.ext ?_
  have h' : (c.val + 16 - a.val) % 16 = (c.val + 16 - b.val) % 16 := congrArg Fin.val h
  have hc : c.val < 16 := c.isLt
  omega

/-- The sum over the ring's slots and each slot's heads is the sum over all heads. -/
theorem sum_heads (f : Fin 64 → EReal) : ∑ r : Fin 16, ∑ hh : Fin 4, f (hd (org c r) hh) = ∑ h, f h := by
  rw [(org_bijective c).sum_comp fun s => ∑ hh : Fin 4, f (hd s hh)]
  rw [← Fintype.sum_prod_type', ← (finProdFinEquiv (m := 16) (n := 4)).sum_comp]
  exact Finset.sum_congr rfl fun a _ => congrArg f (Fin.ext (by show 4 * a.1.val + a.2.val = a.2.val + 4 * a.1.val; omega))

end

/-! ## The windows -/

section

variable {F : FTy → Type} [FloatOps F] (m : (ℓ : Loc nD τ sig) → Buf (Elt F) ℓ) (c : Dev nD)

theorem blk0 (y : S2x128x512.Idx) : ((cfg0.win 0).blk t0_0).view.emb y = y := by
  funext a; apply Fin.ext
  exact win0_0.rect_emb_val_of_index_zero t0_0 a ((by decide : ∀ a, win0_0.index t0_0 a = 0) a) y
theorem blk1 (y : S512x256.Idx) : ((cfg0.win 1).blk t0_0).view.emb y = y := by
  funext a; apply Fin.ext
  exact win0_1.rect_emb_val_of_index_zero t0_0 a ((by decide : ∀ a, win0_1.index t0_0 a = 0) a) y
theorem blk2 (y : S256x512.Idx) : ((cfg0.win 2).blk t0_0).view.emb y = y := by
  funext a; apply Fin.ext
  exact win0_2.rect_emb_val_of_index_zero t0_0 a ((by decide : ∀ a, win0_2.index t0_0 a = 0) a) y
theorem blk3 (y : S2x128x512.Idx) : ((cfg0.win 3).blk t0_0).view.emb y = y := by
  funext a; apply Fin.ext
  exact win0_3.rect_emb_val_of_index_zero t0_0 a ((by decide : ∀ a, win0_3.index t0_0 a = 0) a) y

/-- Each window is its whole array. -/
theorem inX_eq : inX m c = m ((c : Thread nD τ).loc main_arg0) := by
  funext y
  show m ((c : Thread nD τ).loc main_arg0) (((cfg0.win 0).blk t0_0).view.emb y) = _
  rw [blk0]
theorem inQ_eq : inQ m c = m ((c : Thread nD τ).loc main_arg1) := by
  funext y
  show m ((c : Thread nD τ).loc main_arg1) (((cfg0.win 1).blk t0_0).view.emb y) = _
  rw [blk1]
theorem inO_eq : inO m c = m ((c : Thread nD τ).loc main_arg4) := by
  funext y
  show m ((c : Thread nD τ).loc main_arg4) (((cfg0.win 2).blk t0_0).view.emb y) = _
  rw [blk2]

theorem finalA_out : finalA m c 3 = outAt m c := by
  refine (dats m 0 c).arrAt_eq_of_cover 3 (outAt m c) (fun t _ => ?_) fun i => ⟨t0_0, flush0_3 t0_0, ?_⟩
  · rw [fin_N0 t]
    funext y
    show outAt m c y = outAt m c (((cfg0.win 3).blk t0_0).view.emb y)
    rw [blk3]
  · exact (blk3 i) ▸ ((cfg0.win 3).blk t0_0).view.emb_mem_set i

end

end Cert.Value

end
-- ==== Proof.Value.Whole.lean ====
/-
# The kernel and the reference agree

The precondition read at an element, each device's result against the whole attention, and the claim's equality.
-/
module

public import proofs.«01_k».proof.Defs
public import proofs.«01_k».proof.Proof.Value.Device

@[expose] public section

noncomputable section

namespace Cert.Value

open Cert.KernelIdeal Cert.KernelIdeal.Gen Cert.KernelIdeal.Attn
open Idealize.ShloMosaic Idealize.ShloMosaic.TcCoe Idealize.SL.Sem

/-! ## The precondition -/

/-- The shape relations the precondition states, over a device's shapes and over the whole shapes. -/
theorem preFacts : Cert.Pre_finite_KernelIdeal.Facts := ⟨by decide, by decide, by decide⟩
theorem preFactsRef : Cert.Pre_finite_ReferenceIdeal.Facts := ⟨by decide, by decide, by decide⟩

/-- A number whose magnitude is below infinity is real. -/
theorem real_of_abs (a : EReal) (h : BitVec.ofBool (decide (FloatOps.absf (F := Ideal) (φ := .f32) a < Ideal.ofBits .f32 0x7F800000#32)) = 1#1) :
    ∃ r : ℝ, a = (r : EReal) := by
  rw [ofBits_inf] at h
  have h' : max a (-a) < ⊤ := by
    by_contra hn
    rw [show decide (FloatOps.absf (F := Ideal) (φ := .f32) a < ⊤) = false from decide_eq_false hn] at h
    exact absurd h (by decide)
  induction a with
  | bot => exact absurd h' (by simp)
  | top => exact absurd h' (by simp)
  | coe r => exact ⟨r, rfl⟩

section

variable [Cert.Pre_finite_KernelIdeal.Facts] (m : (ℓ : Loc nD τ sig) → Buf (Elt Ideal) ℓ) (h : Pre_KernelIdeal_finite_KernelIdeal m) (c : Dev nD)

include h

set_option maxRecDepth 16384 in
theorem x_real (j : S2x128x512.Idx) : ∃ r : ℝ, m ((c : Thread nD τ).loc main_arg0) j = (r : EReal) := by
  have h0 := congrFun (h c).1 j
  pointwise [Cert.Pre_finite_KernelIdeal.fn] at h0
  exact real_of_abs _ h0
set_option maxRecDepth 16384 in
theorem wq_real (j : S512x256.Idx) : ∃ r : ℝ, m ((c : Thread nD τ).loc main_arg1) j = (r : EReal) := by
  have h0 := congrFun (h c).2.1 j
  pointwise [Cert.Pre_finite_KernelIdeal.fn] at h0
  exact real_of_abs _ h0
set_option maxRecDepth 16384 in
theorem k_real (j : S32x128x64x64.Idx) : ∃ r : ℝ, m ((c : Thread nD τ).loc main_arg2) j = (r : EReal) := by
  have h0 := congrFun (h c).2.2 j
  pointwise [Cert.Pre_finite_KernelIdeal.fn] at h0
  exact real_of_abs _ h0

end

/-! ## The parts of the whole arrays -/

/-- Column `n` of device `s`'s shard, among all columns. -/
def shardCol (s : Dev nD) (n : Fin 256) : Fin 4096 := ⟨256 * s.val + n.val, by have : s.val < 16 := s.isLt; omega⟩

theorem shardCol_col4 (s : Dev nD) (hh : Fin 4) (d : Fin 64) : shardCol s (col4 hh d) = col (hd s hh) d :=
  Fin.ext (by show 256 * s.val + (64 * hh.val + d.val) = (4 * s.val + hh.val) * 64 + d.val; omega)

theorem eta2 {a b : ℕ} (j : (⟨2, ![a, b]⟩ : Shape).Idx) : ix2 (n0 := a) (n1 := b) (j 0) (j 1) = j := by funext k; fin_cases k <;> rfl
theorem eta3 {a b c : ℕ} (j : (⟨3, ![a, b, c]⟩ : Shape).Idx) : ix3 (n0 := a) (n1 := b) (n2 := c) (j 0) (j 1) (j 2) = j := by
  funext k; fin_cases k <;> rfl

theorem block_rows3 (v : (⟨3, ![32, 128, 512]⟩ : Shape).Idx → EReal) (c : Dev nD) (b : Fin 2) (i : Fin 128) (e : Fin 512) :
    (Layout.block ⟨3, ![2, 128, 512]⟩ ⟨3, ![32, 128, 512]⟩ 0 16 c v) (ix3 b i e) = v (ix3 (rowB c b) i e) := by
  rw [Layout.block_apply]
  refine congrArg v (funext fun a => Fin.ext ?_)
  rw [Layout.Tiles.idx_val]
  fin_cases a
  · show c.val * 2 + b.val = 2 * c.val + b.val; omega
  · rfl
  · rfl
theorem block_cols (v : (⟨2, ![512, 4096]⟩ : Shape).Idx → EReal) (c : Dev nD) (e : Fin 512) (n : Fin 256) :
    (Layout.block ⟨2, ![512, 256]⟩ ⟨2, ![512, 4096]⟩ 1 16 c v) (ix2 e n) = v (ix2 e (shardCol c n)) := by
  rw [Layout.block_apply]
  refine congrArg v (funext fun a => Fin.ext ?_)
  rw [Layout.Tiles.idx_val]
  fin_cases a
  · rfl
  · show c.val * 256 + n.val = 256 * c.val + n.val; omega
theorem block_rows (v : (⟨2, ![4096, 512]⟩ : Shape).Idx → EReal) (c : Dev nD) (n : Fin 256) (e : Fin 512) :
    (Layout.block ⟨2, ![256, 512]⟩ ⟨2, ![4096, 512]⟩ 0 16 c v) (ix2 n e) = v (ix2 (shardCol c n) e) := by
  rw [Layout.block_apply]
  refine congrArg v (funext fun a => Fin.ext ?_)
  rw [Layout.Tiles.idx_val]
  fin_cases a
  · show c.val * 256 + n.val = 256 * c.val + n.val; omega
  · rfl

/-! ## The result -/

section

variable (m : (ℓ : Loc nD τ sig) → Buf (Elt Ideal) ℓ)
  (X : FVec Ideal Cert.ReferenceIdeal.S32x128x512 .f32) (WQ : FVec Ideal Cert.ReferenceIdeal.S512x4096 .f32)
  (K V : FVec Ideal Cert.ReferenceIdeal.S32x128x64x64 .f32) (WO : FVec Ideal Cert.ReferenceIdeal.S4096x512 .f32)
  (hm : ∀ c : Dev nD, m ((c : Thread nD τ).loc main_arg0) = Layout.block ⟨3, ![2, 128, 512]⟩ ⟨3, ![32, 128, 512]⟩ 0 16 c X
    ∧ m ((c : Thread nD τ).loc main_arg1) = Layout.block ⟨2, ![512, 256]⟩ ⟨2, ![512, 4096]⟩ 1 16 c WQ
    ∧ m ((c : Thread nD τ).loc main_arg2) = K ∧ m ((c : Thread nD τ).loc main_arg3) = V
    ∧ m ((c : Thread nD τ).loc main_arg4) = Layout.block ⟨2, ![256, 512]⟩ ⟨2, ![4096, 512]⟩ 0 16 c WO)

include hm

/-- Every device leaves its batch rows of the whole attention. -/
theorem outAt_apply (c : Dev nD) (b : Fin 2) (i : Fin 128) (e : Fin 512) : outAt m c (ix3 b i e) = outS X WQ K V WO (rowB c b) i e := by
  show (k0_pay178 (accEnd (DD m) c (k0_pay3 (inX m c))) : FVec Ideal S2x128x512 .f32) (ix3 b i e) = _
  unfold outS
  rw [pay178_apply, accEnd_apply, ← sum_heads c]
  refine Finset.sum_congr rfl fun r _ => ?_
  rw [shardAt_apply]
  refine Finset.sum_congr rfl fun hh _ => ?_
  refine head_eq X WQ K V WO _ _ _ _ _ hh (hd (org c r) hh) (rowB c) ?_ ?_ ?_ ?_ ?_ b i e
  · intro b i e; rw [pay3_apply, inX_eq, (hm c).1, block_rows3]
  · intro e d; rw [wAt_apply, DD_Wq, pay1_apply, inQ_eq, (hm _).2.1, block_cols, shardCol_col4]
  · intro b j d; rw [kAt_apply]; exact congrFun (hm c).2.2.1 _
  · intro b j d; rw [vAt_apply]; exact congrFun (hm c).2.2.2.1 _
  · intro d e; rw [oAt_apply, DD_Wo, pay2_apply, inO_eq, (hm _).2.2.2.2, block_rows, shardCol_col4]

/-- The whole arrays are finite where the devices' parts of them are. -/
theorem X_real (h : ∀ (c : Dev nD) j, ∃ r : ℝ, m ((c : Thread nD τ).loc main_arg0) j = (r : EReal)) (j) : ∃ r : ℝ, X j = (r : EReal) := by
  have hj : (j 0).val < 32 := (j 0).isLt
  have hb := block_rows3 X (⟨(j 0).val / 2, by show _ < 16; omega⟩ : Dev nD) (⟨(j 0).val % 2, by omega⟩ : Fin 2) (j 1) (j 2)
  rw [← (hm _).1, show rowB (⟨(j 0).val / 2, by show _ < 16; omega⟩ : Dev nD) (⟨(j 0).val % 2, by omega⟩ : Fin 2) = j 0 from
    Fin.ext (by show 2 * ((j 0).val / 2) + (j 0).val % 2 = (j 0).val; omega)] at hb
  rw [← eta3 j, ← hb]
  exact h _ _
theorem WQ_real (h : ∀ (c : Dev nD) j, ∃ r : ℝ, m ((c : Thread nD τ).loc main_arg1) j = (r : EReal)) (j) : ∃ r : ℝ, WQ j = (r : EReal) := by
  have hj : (j 1).val < 4096 := (j 1).isLt
  have hb := block_cols WQ (⟨(j 1).val / 256, by show _ < 16; omega⟩ : Dev nD) (j 0) (⟨(j 1).val % 256, by omega⟩ : Fin 256)
  rw [← (hm _).2.1, show shardCol (⟨(j 1).val / 256, by show _ < 16; omega⟩ : Dev nD) (⟨(j 1).val % 256, by omega⟩ : Fin 256) = j 1 from
    Fin.ext (by show 256 * ((j 1).val / 256) + (j 1).val % 256 = (j 1).val; omega)] at hb
  rw [← eta2 j, ← hb]
  exact h _ _

/-- Of finite inputs, query weights and keys, every device's block of the result is its part of the reference's. -/
theorem agree [Cert.Pre_finite_KernelIdeal.Facts] (h : Pre_KernelIdeal_finite_KernelIdeal m) (c : Dev nD) :
    finalA m c 3 = Layout.block ⟨3, ![2, 128, 512]⟩ ⟨3, ![32, 128, 512]⟩ 0 16 c (outR V WO (weightR (expR (scoreR X WQ K)))) := by
  rw [finalA_out]
  refine funext fun (j : S2x128x512.Idx) => ?_
  rw [← eta3 (a := 2) (b := 128) (c := 512) j]
  exact ((outAt_apply m X WQ K V WO hm c (j 0) (j 1) (j 2)).trans
    (ref_apply X WQ K V WO (X_real m X WQ K V WO hm (x_real m h)) (WQ_real m X WQ K V WO hm (wq_real m h))
      (fun j => by rw [← (hm 0).2.2.1]; exact k_real m h 0 j) _ _ _).symm).trans (block_rows3 _ c (j 0) (j 1) (j 2)).symm

end

end Cert.Value

end
-- ==== Proof.lean ====
/-
The certificate's claims, joined: what each program leaves unchanged, that the ideal program is the program's own text,
and that its result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Whole
public import Idealize.ShloMosaic.Adequacy
public import Idealize.ShloMosaic.Init
public import Idealize.ShloMosaic.Lib.Quiescent

@[expose] public section

noncomputable section

namespace Cert.Proof

open Idealize.ShloMosaic Idealize.SL.Sem

/-- The kernel over machine floats runs, leaves its five arguments as they were and every counter at zero. -/
theorem frame_kernel : Cert.quiescent_Kernel := fun m ρ _ => Cert.Kernel.Attn.run_frame m ρ

/-- The same of the kernel over the extended reals. -/
theorem frame_ideal : Cert.quiescent_KernelIdeal := fun m ρ _ => Cert.KernelIdeal.Attn.run_frame m ρ

/-- The reference runs and leaves its five arguments as they were; it declares no counter. -/
theorem frame_ref : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two frames over the extended reals hold of finite inputs because they hold of all. -/
theorem frame_ideal_finite [Cert.Pre_finite_KernelIdeal.Facts] : Cert.quiescent_KernelIdeal_pre_finite_KernelIdeal :=
  fun m ρ _ => frame_ideal m ρ trivial
theorem frame_ref_finite [Cert.Pre_finite_ReferenceIdeal.Facts] : Cert.quiescent_ReferenceIdeal_pre_finite_ReferenceIdeal :=
  fun m ρ _ => frame_ref m ρ trivial

/-- Of finite inputs, query weights and keys, each device ends holding its batch rows of the reference's result. -/
theorem value [Cert.Pre_finite_KernelIdeal.Facts] : Cert.algebraic_KernelIdeal_ReferenceIdeal_pre_finite_KernelIdeal := by
  intro m ρ m' ρ' hpre hm
  refine ⟨Cert.ReferenceIdeal.Value.res_main_v44 m' 0, ?_, ?_⟩
  · refine (θ_run _ _ _).mono (fun r h c => ?_) (Cert.KernelIdeal.Attn.run_main m ρ)
    have hc := h.1 c
    refine ⟨(hc.1 3).trans ?_, (hc.1 0).trans (Cert.KernelIdeal.Attn.finalA_in m c 0 rfl),
      (hc.1 1).trans (Cert.KernelIdeal.Attn.finalA_in m c 1 rfl), hc.2.1, hc.2.2, (hc.1 2).trans (Cert.KernelIdeal.Attn.finalA_in m c 2 rfl)⟩
    rw [Cert.Value.res_eq]
    exact Cert.Value.agree m _ _ _ _ _ hm hpre c
  · exact (θ_run _ _ _).mono (fun r h => h 0) (Cert.ReferenceIdeal.Value.run (F := Ideal) m' ρ')

theorem claim : Cert.Claim := ⟨Cert.Kernel.Gen.facts, Cert.KernelIdeal.Gen.facts, Cert.ReferenceIdeal.Gen.facts,
  Cert.Value.preFacts, Cert.Value.preFactsRef, frame_kernel, frame_ideal,
  letI := Cert.Value.preFacts; frame_ideal_finite, frame_ref, letI := Cert.Value.preFactsRef; frame_ref_finite, trivial,
  letI := Cert.Value.preFacts; value⟩

end Cert.Proof

end
